-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_KernelIdeal [hPre_valid_KernelIdeal : Cert.Pre_valid_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_valid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_valid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_valid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_ReferenceIdeal [hPre_valid_ReferenceIdeal : Cert.Pre_valid_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_valid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_valid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_valid_KernelIdeal [hKernelIdeal : Cert.KernelIdeal.Facts] [hPre_valid_KernelIdeal : Cert.Pre_valid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid_ReferenceIdeal [hReferenceIdeal : Cert.ReferenceIdeal.Facts] [hPre_valid_ReferenceIdeal : Cert.Pre_valid_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_valid_KernelIdeal [hKernelIdeal : Cert.KernelIdeal.Facts] [hReferenceIdeal : Cert.ReferenceIdeal.Facts] [hPre_valid_KernelIdeal : Cert.Pre_valid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_valid_KernelIdeal : Cert.Pre_valid_KernelIdeal.Facts) (hPre_valid_ReferenceIdeal : Cert.Pre_valid_ReferenceIdeal.Facts),
    quiescent_Kernel (hKernel := hKernel)
    ∧ quiescent_KernelIdeal (hKernelIdeal := hKernelIdeal)
    ∧ quiescent_KernelIdeal_pre_valid_KernelIdeal (hKernelIdeal := hKernelIdeal) (hPre_valid_KernelIdeal := hPre_valid_KernelIdeal)
    ∧ quiescent_ReferenceIdeal (hReferenceIdeal := hReferenceIdeal)
    ∧ quiescent_ReferenceIdeal_pre_valid_ReferenceIdeal (hReferenceIdeal := hReferenceIdeal) (hPre_valid_ReferenceIdeal := hPre_valid_ReferenceIdeal)
    ∧ preserves_Kernel_KernelIdeal
    ∧ algebraic_KernelIdeal_ReferenceIdeal_pre_valid_KernelIdeal (hKernelIdeal := hKernelIdeal) (hReferenceIdeal := hReferenceIdeal) (hPre_valid_KernelIdeal := hPre_valid_KernelIdeal)
-- ==== Pre_valid_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  bcast_S_S256x64 : S_.BroadcastsInDim S256x64 (![] : Fin 0 → Fin S256x64.rank)
  bcast_S_S512x1 : S_.BroadcastsInDim S512x1 (![] : Fin 0 → Fin S512x1.rank)

variable [Facts]

def fn {F : FTy → Type} [FloatOps F] (main_arg0 : FVec F S512x256 .bf16) (main_arg1 : FVec F S256x64 .bf16) (main_arg2 : IVec S512x1 32) (main_arg3 : FVec F S4x256x512 .bf16) (main_arg4 : FVec F S256x512 .bf16) : IVec S512x256 1 × IVec S256x64 1 × IVec S512x1 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_v4 : FVec F S256x64 .f32 := (extf .f32 · bitsLt_bf16_f32) main_arg1
  let main_v5 : FVec F S256x64 .f32 := Host.absf main_v4
  let main_cst_0 : FVec F S_ .f32 := constant S_ .f32 0x7F800000#32
  let main_v6 : FVec F S256x64 .f32 := broadcastInDim S256x64 ![] bcast_S_S256x64 main_cst_0
  let main_v7 : IVec S256x64 1 := cmpf .olt main_v5 main_v6
  let main_c : IVec S_ 32 := constantI S_ 32 0#32
  let main_v8 : IVec S512x1 32 := broadcastInDim S512x1 ![] bcast_S_S512x1 main_c
  let main_v9 : IVec S512x1 1 := cmpi .sge main_arg2 main_v8
  let main_c_1 : IVec S_ 32 := constantI S_ 32 64#32
  let main_v10 : IVec S512x1 32 := broadcastInDim S512x1 ![] bcast_S_S512x1 main_c_1
  let main_v11 : IVec S512x1 1 := cmpi .slt main_arg2 main_v10
  let main_v12 : IVec S512x1 1 := andi main_v9 main_v11
  (main_v3, main_v7, main_v12)
-- ==== Pre_valid_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  bcast_S_S256x64 : S_.BroadcastsInDim S256x64 (![] : Fin 0 → Fin S256x64.rank)
  bcast_S_S512x1 : S_.BroadcastsInDim S512x1 (![] : Fin 0 → Fin S512x1.rank)

variable [Facts]

def fn {F : FTy → Type} [FloatOps F] (main_arg0 : FVec F S512x256 .bf16) (main_arg1 : FVec F S256x64 .bf16) (main_arg2 : IVec S512x1 32) (main_arg3 : FVec F S64x256x512 .bf16) (main_arg4 : FVec F S256x512 .bf16) : IVec S512x256 1 × IVec S256x64 1 × IVec S512x1 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_v4 : FVec F S256x64 .f32 := (extf .f32 · bitsLt_bf16_f32) main_arg1
  let main_v5 : FVec F S256x64 .f32 := Host.absf main_v4
  let main_cst_0 : FVec F S_ .f32 := constant S_ .f32 0x7F800000#32
  let main_v6 : FVec F S256x64 .f32 := broadcastInDim S256x64 ![] bcast_S_S256x64 main_cst_0
  let main_v7 : IVec S256x64 1 := cmpf .olt main_v5 main_v6
  let main_c : IVec S_ 32 := constantI S_ 32 0#32
  let main_v8 : IVec S512x1 32 := broadcastInDim S512x1 ![] bcast_S_S512x1 main_c
  let main_v9 : IVec S512x1 1 := cmpi .sge main_arg2 main_v8
  let main_c_1 : IVec S_ 32 := constantI S_ 32 64#32
  let main_v10 : IVec S512x1 32 := broadcastInDim S512x1 ![] bcast_S_S512x1 main_c_1
  let main_v11 : IVec S512x1 1 := cmpi .slt main_arg2 main_v10
  let main_v12 : IVec S512x1 1 := andi main_v9 main_v11
  (main_v3, main_v7, main_v12)
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S32x512 : Shape := ⟨2, ![32, 512]⟩
abbrev S512x512 : Shape := ⟨2, ![512, 512]⟩
abbrev S16x32x512 : Shape := ⟨3, ![16, 32, 512]⟩
abbrev S16 : Shape := ⟨1, ![16]⟩
abbrev S_ : Shape := ⟨0, ![]⟩
abbrev S512x64 : Shape := ⟨2, ![512, 64]⟩
abbrev S512 : Shape := ⟨1, ![512]⟩
abbrev S512x1024 : Shape := ⟨2, ![512, 1024]⟩
abbrev S1024x512 : Shape := ⟨2, ![1024, 512]⟩
abbrev S128x1024 : Shape := ⟨2, ![128, 1024]⟩
abbrev S128x512 : Shape := ⟨2, ![128, 512]⟩
abbrev S1 : Shape := ⟨1, ![1]⟩
abbrev S1x32x512 : Shape := ⟨3, ![1, 32, 512]⟩
abbrev S32x256 : Shape := ⟨2, ![32, 256]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S32x512, .f32⟩
  | .local _ .vmem, ⟨0, _⟩ => ⟨S512x256, .bf16⟩
  | .local _ .vmem, ⟨1, _⟩ => ⟨S256x64, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S32x512, .f32⟩
  | .local _ .vmem, ⟨6, _⟩ => ⟨S512x512, .bf16⟩
  | .local _ .vmem, ⟨7, _⟩ => ⟨S16x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let v272 : BitVec 1 := Scalar.cmpi .ne v2 c0_i32_163
  let v273 : BitVec 32 := Scalar.extui v272
  let c0_i32_165 : BitVec 32 := 0#32
  let v274 : BitVec 1 := Scalar.cmpi .ne v273 c0_i32_165
  v274

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev16 : Nat :=
  let c0_i32_460 : BitVec 32 := 0#32
  let c0_i32_458 : BitVec 32 := 0#32
  let c1_i32_459 : BitVec 32 := 1#32
  let v660 : BitVec 32 := Scalar.muli c0_i32_458 c1_i32_459
  let v661 : BitVec 32 := Scalar.addi c0_i32_460 v660
  v661.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_166 : BitVec 32 := 1#32
  let v275 : BitVec 1 := Scalar.cmpi .ne v2 c1_i32_166
  let v276 : BitVec 32 := Scalar.extui v275
  let c0_i32_168 : BitVec 32 := 0#32
  let v277 : BitVec 1 := Scalar.cmpi .ne v276 c0_i32_168
  v277

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev17 : Nat :=
  let c0_i32_460 : BitVec 32 := 0#32
  let c1_i32_458 : BitVec 32 := 1#32
  let c1_i32_459 : BitVec 32 := 1#32
  let v660 : BitVec 32 := Scalar.muli c1_i32_458 c1_i32_459
  let v661 : BitVec 32 := Scalar.addi c0_i32_460 v660
  v661.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_169 : BitVec 32 := 2#32
  let v278 : BitVec 1 := Scalar.cmpi .ne v2 c2_i32_169
  let v279 : BitVec 32 := Scalar.extui v278
  let c0_i32_171 : BitVec 32 := 0#32
  let v280 : BitVec 1 := Scalar.cmpi .ne v279 c0_i32_171
  v280

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev18 : Nat :=
  let c0_i32_460 : BitVec 32 := 0#32
  let c2_i32_458 : BitVec 32 := 2#32
  let c1_i32_459 : BitVec 32 := 1#32
  let v660 : BitVec 32 := Scalar.muli c2_i32_458 c1_i32_459
  let v661 : BitVec 32 := Scalar.addi c0_i32_460 v660
  v661.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_172 : BitVec 32 := 3#32
  let v281 : BitVec 1 := Scalar.cmpi .ne v2 c3_i32_172
  let v282 : BitVec 32 := Scalar.extui v281
  let c0_i32_174 : BitVec 32 := 0#32
  let v283 : BitVec 1 := Scalar.cmpi .ne v282 c0_i32_174
  v283

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev19 : Nat :=
  let c0_i32_460 : BitVec 32 := 0#32
  let c3_i32_458 : BitVec 32 := 3#32
  let c1_i32_459 : BitVec 32 := 1#32
  let v660 : BitVec 32 := Scalar.muli c3_i32_458 c1_i32_459
  let v661 : BitVec 32 := Scalar.addi c0_i32_460 v660
  v661.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_177 : BitVec 32 := 4#32
  let v290 : BitVec 1 := Scalar.cmpi .ne v2 c4_i32_177
  let v291 : BitVec 32 := Scalar.extui v290
  let c0_i32_179 : BitVec 32 := 0#32
  let v292 : BitVec 1 := Scalar.cmpi .ne v291 c0_i32_179
  v292

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev20 : Nat :=
  let c0_i32_460 : BitVec 32 := 0#32
  let c4_i32_458 : BitVec 32 := 4#32
  let c1_i32_459 : BitVec 32 := 1#32
  let v660 : BitVec 32 := Scalar.muli c4_i32_458 c1_i32_459
  let v661 : BitVec 32 := Scalar.addi c0_i32_460 v660
  v661.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_180 : BitVec 32 := 5#32
  let v293 : BitVec 1 := Scalar.cmpi .ne v2 c5_i32_180
  let v294 : BitVec 32 := Scalar.extui v293
  let c0_i32_182 : BitVec 32 := 0#32
  let v295 : BitVec 1 := Scalar.cmpi .ne v294 c0_i32_182
  v295

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev21 : Nat :=
  let c0_i32_460 : BitVec 32 := 0#32
  let c5_i32_458 : BitVec 32 := 5#32
  let c1_i32_459 : BitVec 32 := 1#32
  let v660 : BitVec 32 := Scalar.muli c5_i32_458 c1_i32_459
  let v661 : BitVec 32 := Scalar.addi c0_i32_460 v660
  v661.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_183 : BitVec 32 := 6#32
  let v296 : BitVec 1 := Scalar.cmpi .ne v2 c6_i32_183
  let v297 : BitVec 32 := Scalar.extui v296
  let c0_i32_185 : BitVec 32 := 0#32
  let v298 : BitVec 1 := Scalar.cmpi .ne v297 c0_i32_185
  v298

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev22 : Nat :=
  let c0_i32_460 : BitVec 32 := 0#32
  let c6_i32_458 : BitVec 32 := 6#32
  let c1_i32_459 : BitVec 32 := 1#32
  let v660 : BitVec 32 := Scalar.muli c6_i32_458 c1_i32_459
  let v661 : BitVec 32 := Scalar.addi c0_i32_460 v660
  v661.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_186 : BitVec 32 := 7#32
  let v299 : BitVec 1 := Scalar.cmpi .ne v2 c7_i32_186
  let v300 : BitVec 32 := Scalar.extui v299
  let c0_i32_188 : BitVec 32 := 0#32
  let v301 : BitVec 1 := Scalar.cmpi .ne v300 c0_i32_188
  v301

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev23 : Nat :=
  let c0_i32_460 : BitVec 32 := 0#32
  let c7_i32_458 : BitVec 32 := 7#32
  let c1_i32_459 : BitVec 32 := 1#32
  let v660 : BitVec 32 := Scalar.muli c7_i32_458 c1_i32_459
  let v661 : BitVec 32 := Scalar.addi c0_i32_460 v660
  v661.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_191 : BitVec 32 := 8#32
  let v308 : BitVec 1 := Scalar.cmpi .ne v2 c8_i32_191
  let v309 : BitVec 32 := Scalar.extui v308
  let c0_i32_193 : BitVec 32 := 0#32
  let v310 : BitVec 1 := Scalar.cmpi .ne v309 c0_i32_193
  v310

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev24 : Nat :=
  let c0_i32_460 : BitVec 32 := 0#32
  let c8_i32_458 : BitVec 32 := 8#32
  let c1_i32_459 : BitVec 32 := 1#32
  let v660 : BitVec 32 := Scalar.muli c8_i32_458 c1_i32_459
  let v661 : BitVec 32 := Scalar.addi c0_i32_460 v660
  v661.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_194 : BitVec 32 := 9#32
  let v311 : BitVec 1 := Scalar.cmpi .ne v2 c9_i32_194
  let v312 : BitVec 32 := Scalar.extui v311
  let c0_i32_196 : BitVec 32 := 0#32
  let v313 : BitVec 1 := Scalar.cmpi .ne v312 c0_i32_196
  v313

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev25 : Nat :=
  let c0_i32_460 : BitVec 32 := 0#32
  let c9_i32_458 : BitVec 32 := 9#32
  let c1_i32_459 : BitVec 32 := 1#32
  let v660 : BitVec 32 := Scalar.muli c9_i32_458 c1_i32_459
  let v661 : BitVec 32 := Scalar.addi c0_i32_460 v660
  v661.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_197 : BitVec 32 := 10#32
  let v314 : BitVec 1 := Scalar.cmpi .ne v2 c10_i32_197
  let v315 : BitVec 32 := Scalar.extui v314
  let c0_i32_199 : BitVec 32 := 0#32
  let v316 : BitVec 1 := Scalar.cmpi .ne v315 c0_i32_199
  v316

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev26 : Nat :=
  let c0_i32_460 : BitVec 32 := 0#32
  let c10_i32_458 : BitVec 32 := 10#32
  let c1_i32_459 : BitVec 32 := 1#32
  let v660 : BitVec 32 := Scalar.muli c10_i32_458 c1_i32_459
  let v661 : BitVec 32 := Scalar.addi c0_i32_460 v660
  v661.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_200 : BitVec 32 := 11#32
  let v317 : BitVec 1 := Scalar.cmpi .ne v2 c11_i32_200
  let v318 : BitVec 32 := Scalar.extui v317
  let c0_i32_202 : BitVec 32 := 0#32
  let v319 : BitVec 1 := Scalar.cmpi .ne v318 c0_i32_202
  v319

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev27 : Nat :=
  let c0_i32_460 : BitVec 32 := 0#32
  let c11_i32_458 : BitVec 32 := 11#32
  let c1_i32_459 : BitVec 32 := 1#32
  let v660 : BitVec 32 := Scalar.muli c11_i32_458 c1_i32_459
  let v661 : BitVec 32 := Scalar.addi c0_i32_460 v660
  v661.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_205 : BitVec 32 := 12#32
  let v326 : BitVec 1 := Scalar.cmpi .ne v2 c12_i32_205
  let v327 : BitVec 32 := Scalar.extui v326
  let c0_i32_207 : BitVec 32 := 0#32
  let v328 : BitVec 1 := Scalar.cmpi .ne v327 c0_i32_207
  v328

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev28 : Nat :=
  let c0_i32_460 : BitVec 32 := 0#32
  let c12_i32_458 : BitVec 32 := 12#32
  let c1_i32_459 : BitVec 32 := 1#32
  let v660 : BitVec 32 := Scalar.muli c12_i32_458 c1_i32_459
  let v661 : BitVec 32 := Scalar.addi c0_i32_460 v660
  v661.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_208 : BitVec 32 := 13#32
  let v329 : BitVec 1 := Scalar.cmpi .ne v2 c13_i32_208
  let v330 : BitVec 32 := Scalar.extui v329
  let c0_i32_210 : BitVec 32 := 0#32
  let v331 : BitVec 1 := Scalar.cmpi .ne v330 c0_i32_210
  v331

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev29 : Nat :=
  let c0_i32_460 : BitVec 32 := 0#32
  let c13_i32_458 : BitVec 32 := 13#32
  let c1_i32_459 : BitVec 32 := 1#32
  let v660 : BitVec 32 := Scalar.muli c13_i32_458 c1_i32_459
  let v661 : BitVec 32 := Scalar.addi c0_i32_460 v660
  v661.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_211 : BitVec 32 := 14#32
  let v332 : BitVec 1 := Scalar.cmpi .ne v2 c14_i32_211
  let v333 : BitVec 32 := Scalar.extui v332
  let c0_i32_213 : BitVec 32 := 0#32
  let v334 : BitVec 1 := Scalar.cmpi .ne v333 c0_i32_213
  v334

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev30 : Nat :=
  let c0_i32_460 : BitVec 32 := 0#32
  let c14_i32_458 : BitVec 32 := 14#32
  let c1_i32_459 : BitVec 32 := 1#32
  let v660 : BitVec 32 := Scalar.muli c14_i32_458 c1_i32_459
  let v661 : BitVec 32 := Scalar.addi c0_i32_460 v660
  v661.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_214 : BitVec 32 := 15#32
  let v335 : BitVec 1 := Scalar.cmpi .ne v2 c15_i32_214
  let v336 : BitVec 32 := Scalar.extui v335
  let c0_i32_216 : BitVec 32 := 0#32
  let v337 : BitVec 1 := Scalar.cmpi .ne v336 c0_i32_216
  v337

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_dev31 : Nat :=
  let c0_i32_460 : BitVec 32 := 0#32
  let c15_i32_458 : BitVec 32 := 15#32
  let c1_i32_459 : BitVec 32 := 1#32
  let v660 : BitVec 32 := Scalar.muli c15_i32_458 c1_i32_459
  let v661 : BitVec 32 := Scalar.addi c0_i32_460 v660
  v661.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v338 : BitVec 32 := Scalar.muli v2 c32_i32
  let v339 : Index := Scalar.indexCast v338
  let c0_217 : Index := 0#32
  ![v339.toNat, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_221 : BitVec 32 := 32#32
  let v345 : BitVec 32 := Scalar.muli v2 c32_i32_221
  let v346 : Index := Scalar.indexCast v345
  let c0_222 : Index := 0#32
  ![v346.toNat, 0]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v349 : Index := Scalar.indexCast v2
  let c0_223 : Index := 0#32
  let c0_224 : Index := 0#32
  ![v349.toNat, 0, 0]
def k0_off36 (d0 : Dev nD) (c1_i32_225 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v353 : BitVec 32 := Scalar.addi v2 c1_i32_225
  let c16_i32_226 : BitVec 32 := 16#32
  let c0_i32_227 : BitVec 32 := 0#32
  let v354 : BitVec 1 := Scalar.cmpi .eq c16_i32_226 c0_i32_227
  let c1_i32_228 : BitVec 32 := 1#32
  let v355 : BitVec 32 := Scalar.select v354 c1_i32_228 c16_i32_226
  let v356 : BitVec 32 := Scalar.remsi v353 v355
  let c0_i32_230 : BitVec 32 := 0#32
  let v358 : BitVec 1 := Scalar.cmpi .slt v356 c0_i32_230
  let c0_i32_231 : BitVec 32 := 0#32
  let v359 : BitVec 1 := Scalar.cmpi .slt v355 c0_i32_231
  let v360 : BitVec 1 := Scalar.xori v358 v359
  let c0_i32_229 : BitVec 32 := 0#32
  let v357 : BitVec 1 := Scalar.cmpi .ne v356 c0_i32_229
  let v361 : BitVec 1 := Scalar.andi v360 v357
  let v362 : BitVec 32 := Scalar.addi v356 v355
  let v363 : BitVec 32 := Scalar.select v361 v362 v356
  ![v363.toNat]
def k0_off37 (d0 : Dev nD) (c1_i32_225 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v353 : BitVec 32 := Scalar.addi v2 c1_i32_225
  let c16_i32_226 : BitVec 32 := 16#32
  let c0_i32_227 : BitVec 32 := 0#32
  let v354 : BitVec 1 := Scalar.cmpi .eq c16_i32_226 c0_i32_227
  let c1_i32_228 : BitVec 32 := 1#32
  let v355 : BitVec 32 := Scalar.select v354 c1_i32_228 c16_i32_226
  let v356 : BitVec 32 := Scalar.remsi v353 v355
  let c0_i32_230 : BitVec 32 := 0#32
  let v358 : BitVec 1 := Scalar.cmpi .slt v356 c0_i32_230
  let c0_i32_231 : BitVec 32 := 0#32
  let v359 : BitVec 1 := Scalar.cmpi .slt v355 c0_i32_231
  let v360 : BitVec 1 := Scalar.xori v358 v359
  let c0_i32_229 : BitVec 32 := 0#32
  let v357 : BitVec 1 := Scalar.cmpi .ne v356 c0_i32_229
  let v361 : BitVec 1 := Scalar.andi v360 v357
  let v362 : BitVec 32 := Scalar.addi v356 v355
  let v363 : BitVec 32 := Scalar.select v361 v362 v356
  let c0_i32_234 : BitVec 32 := 0#32
  let c0_i32_235 : BitVec 32 := 0#32
  ![v363.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_163 : BitVec 32 := 0#32
  let v272 : BitVec 1 := Scalar.cmpi .ne v2 c0_i32_163
  let v628 : BitVec 32 := Scalar.extui v272
  let c0_i32_427 : BitVec 32 := 0#32
  let v629 : BitVec 1 := Scalar.cmpi .ne v628 c0_i32_427
  v629

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_462 : BitVec 32 := 0#32
  let c0_i32_463 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_166 : BitVec 32 := 1#32
  let v275 : BitVec 1 := Scalar.cmpi .ne v2 c1_i32_166
  let v630 : BitVec 32 := Scalar.extui v275
  let c0_i32_429 : BitVec 32 := 0#32
  let v631 : BitVec 1 := Scalar.cmpi .ne v630 c0_i32_429
  v631

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_462 : BitVec 32 := 0#32
  let c0_i32_463 : BitVec 32 := 0#32
  ![v2.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_169 : BitVec 32 := 2#32
  let v278 : BitVec 1 := Scalar.cmpi .ne v2 c2_i32_169
  let v632 : BitVec 32 := Scalar.extui v278
  let c0_i32_431 : BitVec 32 := 0#32
  let v633 : BitVec 1 := Scalar.cmpi .ne v632 c0_i32_431
  v633

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_172 : BitVec 32 := 3#32
  let v281 : BitVec 1 := Scalar.cmpi .ne v2 c3_i32_172
  let v634 : BitVec 32 := Scalar.extui v281
  let c0_i32_433 : BitVec 32 := 0#32
  let v635 : BitVec 1 := Scalar.cmpi .ne v634 c0_i32_433
  v635

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_177 : BitVec 32 := 4#32
  let v290 : BitVec 1 := Scalar.cmpi .ne v2 c4_i32_177
  let v636 : BitVec 32 := Scalar.extui v290
  let c0_i32_435 : BitVec 32 := 0#32
  let v637 : BitVec 1 := Scalar.cmpi .ne v636 c0_i32_435
  v637

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_180 : BitVec 32 := 5#32
  let v293 : BitVec 1 := Scalar.cmpi .ne v2 c5_i32_180
  let v638 : BitVec 32 := Scalar.extui v293
  let c0_i32_437 : BitVec 32 := 0#32
  let v639 : BitVec 1 := Scalar.cmpi .ne v638 c0_i32_437
  v639

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_183 : BitVec 32 := 6#32
  let v296 : BitVec 1 := Scalar.cmpi .ne v2 c6_i32_183
  let v640 : BitVec 32 := Scalar.extui v296
  let c0_i32_439 : BitVec 32 := 0#32
  let v641 : BitVec 1 := Scalar.cmpi .ne v640 c0_i32_439
  v641

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_186 : BitVec 32 := 7#32
  let v299 : BitVec 1 := Scalar.cmpi .ne v2 c7_i32_186
  let v642 : BitVec 32 := Scalar.extui v299
  let c0_i32_441 : BitVec 32 := 0#32
  let v643 : BitVec 1 := Scalar.cmpi .ne v642 c0_i32_441
  v643

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_191 : BitVec 32 := 8#32
  let v308 : BitVec 1 := Scalar.cmpi .ne v2 c8_i32_191
  let v644 : BitVec 32 := Scalar.extui v308
  let c0_i32_443 : BitVec 32 := 0#32
  let v645 : BitVec 1 := Scalar.cmpi .ne v644 c0_i32_443
  v645

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_194 : BitVec 32 := 9#32
  let v311 : BitVec 1 := Scalar.cmpi .ne v2 c9_i32_194
  let v646 : BitVec 32 := Scalar.extui v311
  let c0_i32_445 : BitVec 32 := 0#32
  let v647 : BitVec 1 := Scalar.cmpi .ne v646 c0_i32_445
  v647

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_197 : BitVec 32 := 10#32
  let v314 : BitVec 1 := Scalar.cmpi .ne v2 c10_i32_197
  let v648 : BitVec 32 := Scalar.extui v314
  let c0_i32_447 : BitVec 32 := 0#32
  let v649 : BitVec 1 := Scalar.cmpi .ne v648 c0_i32_447
  v649

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_200 : BitVec 32 := 11#32
  let v317 : BitVec 1 := Scalar.cmpi .ne v2 c11_i32_200
  let v650 : BitVec 32 := Scalar.extui v317
  let c0_i32_449 : BitVec 32 := 0#32
  let v651 : BitVec 1 := Scalar.cmpi .ne v650 c0_i32_449
  v651

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_205 : BitVec 32 := 12#32
  let v326 : BitVec 1 := Scalar.cmpi .ne v2 c12_i32_205
  let v652 : BitVec 32 := Scalar.extui v326
  let c0_i32_451 : BitVec 32 := 0#32
  let v653 : BitVec 1 := Scalar.cmpi .ne v652 c0_i32_451
  v653

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_208 : BitVec 32 := 13#32
  let v329 : BitVec 1 := Scalar.cmpi .ne v2 c13_i32_208
  let v654 : BitVec 32 := Scalar.extui v329
  let c0_i32_453 : BitVec 32 := 0#32
  let v655 : BitVec 1 := Scalar.cmpi .ne v654 c0_i32_453
  v655

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_211 : BitVec 32 := 14#32
  let v332 : BitVec 1 := Scalar.cmpi .ne v2 c14_i32_211
  let v656 : BitVec 32 := Scalar.extui v332
  let c0_i32_455 : BitVec 32 := 0#32
  let v657 : BitVec 1 := Scalar.cmpi .ne v656 c0_i32_455
  v657

def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_214 : BitVec 32 := 15#32
  let v335 : BitVec 1 := Scalar.cmpi .ne v2 c15_i32_214
  let v658 : BitVec 32 := Scalar.extui v335
  let c0_i32_457 : BitVec 32 := 0#32
  let v659 : BitVec 1 := Scalar.cmpi .ne v658 c0_i32_457
  v659

def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_461 : BitVec 32 := 0#32
  let c0_i32_462 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x2 : Shape := ⟨2, ![512, 2]⟩
abbrev S512x256x512 : Shape := ⟨3, ![512, 256, 512]⟩

abbrev nBuf : Space → Nat
  | .hbm => 56
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S256x512, .bf16⟩
  | .hbm, ⟨5, _⟩ => ⟨S512x256, .f32⟩
  | .hbm, ⟨6, _⟩ => ⟨S256x64, .f32⟩
  | .hbm, ⟨7, _⟩ => ⟨S64x256x512, .f32⟩
  | .hbm, ⟨8, _⟩ => ⟨S256x512, .f32⟩
  | .hbm, ⟨9, _⟩ => ⟨S512x64, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S512x64, .f32⟩
  | .hbm, ⟨20, _⟩ => ⟨S512x64, .f32⟩
  | .hbm, ⟨21, _⟩ => ⟨S512x512, .f32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S512x1, .i32⟩
  | .hbm, ⟨40, _⟩ => ⟨S512x2, .i32⟩
  | .hbm, ⟨41, _⟩ => ⟨S512, .f32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S512x256x512, .f32⟩
  | .hbm, ⟨51, _⟩ => ⟨S512x512, .f32⟩
  | .hbm, ⟨52, _⟩ => ⟨S512x1, .f32⟩
  | .hbm, ⟨53, _⟩ => ⟨S512x512, .f32⟩
  | .hbm, ⟨54, _⟩ => ⟨S512x512, .f32⟩
  | .hbm, ⟨55, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Protocol.lean ====
/-
# The exchange of partial results, as a protocol

Each of the sixteen devices computes, for all 512 tokens, the part of the routed result that its own four experts give
(`part c`, one bfloat16 row per token). Rows `32 d … 32 d + 31` of it are wanted by device `d`: device `c` copies them
into slot `c` of device `d`'s receive buffer. Before that every device has told every other one, by one unit on the
barrier semaphore, that its receive buffer is there.

This file states who may touch what, and when, as a schedule of rounds (one round per semaphore):

* the barrier semaphore of device `c` gets one unit from each other device `d`; with its unit `d` hands over slot `c` of
  its own receive buffer, and that its receive semaphore number `c` is at its start;
* receive semaphore number `s` of device `c` (`s ≠ c`) gets the credit of one 32-row copy from device `s`; with it comes
  slot `s` of `c`'s receive buffer, holding rows `32 c …` of `part s`;
* send semaphore number `d` of device `c` (`d ≠ c`) gets the same credit when the copy to `d` has left; with it `c` gets
  its own rows `32 d …` back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueIdx
public import Idealize.ShloMosaic.Lib.ValueLayout

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty)
open Idealize.ShloMosaic.Pipeline (Dat Cfg Window BodyObligation cellOf)

variable {F : FTy → Type} [FloatOps F]

/-! ## The resource algebra -/

/-- The exchange's own rounds, a duty named by the device that pays it. -/
abbrev UX : Type := URounds (GSem nD τ sig) (Dev nD)
/-- Beside them the rounds of the windows' staging copies. -/
abbrev UU : Type := UR sig nD τ × UX

local notation "𝕄" => MT nD τ sig Unit (Elt F) ℕ UU ℕ

/-- Where the staging rounds sit. -/
abbrev EP : Emb (UR sig nD τ) (MT nD τ sig Unit (Elt F) ℕ UU ℕ) := embL
/-- Where the exchange's rounds sit. -/
abbrev ER : Emb UX (MT nD τ sig Unit (Elt F) ℕ UU ℕ) := embR

variable (m : (ℓ : Loc nD τ sig) → Buf (Elt F) ℓ) (ρ : Dev nD → PrngReg)

/-- The memory at launch: the arguments and everything else arbitrary, every semaphore counter zero. -/
def s₀ : MemSt nD τ sig (Elt F) := ⟨m, fun _ => 0, ρ⟩

/-! ## Memrefs, semaphores, cells -/

abbrev xM : Memref sig .tc .vmem S512x256 .bf16 := Memref.whole cc0_stg0_0
abbrev wM : Memref sig .tc .vmem S256x64 .bf16 := Memref.whole cc0_stg1_0
abbrev eM : Memref sig .tc .vmem S512x1 .i32 := Memref.whole cc0_stg2_0
abbrev expM : Memref sig .tc .vmem S4x256x512 .bf16 := Memref.whole cc0_stg3_0
abbrev shM : Memref sig .tc .vmem S256x512 .bf16 := Memref.whole cc0_stg4_0
abbrev outM : Memref sig .tc .vmem S32x512 .f32 := Memref.whole cc0_stg5_0
abbrev partM : Memref sig .tc .vmem S512x512 .bf16 := Memref.whole cc0_scratch0
abbrev recvM : Memref sig .tc .vmem S16x32x512 .bf16 := Memref.whole cc0_scratch1

/-- The barrier semaphore. -/
abbrev barS : Sem sig := (SemArray.scalar (sig.barrier 0 rfl) : Sems sig S_).sem
/-- Send semaphore number `d` and receive semaphore number `s`, in the pool. -/
def sendS (d : Dev nD) : DmaSem sig := ⟨6 + d.val, by have := d.isLt; show 6 + d.val < 38; have : nD = 16 := rfl; omega⟩
def recvS (s : Dev nD) : DmaSem sig := ⟨22 + s.val, by have := s.isLt; show 22 + s.val < 38; have : nD = 16 := rfl; omega⟩

abbrev barCell (c : Dev nD) : GSem nD τ sig := ((c : Thread nD τ), .reg barS)
abbrev sendCell (c d : Dev nD) : GSem nD τ sig := ((c : Thread nD τ), .dma (sendS d))
abbrev recvCell (c s : Dev nD) : GSem nD τ sig := ((c : Thread nD τ), .dma (recvS s))

/-- The device `k` places after `c`. -/
def peer (c : Dev nD) (k : Fin 16) : Dev nD := ⟨(c.val + k.val) % 16, Nat.mod_lt _ (by decide)⟩

/-- The credit of one 32-row copy. -/
abbrev N : ℕ := ((partM).slice (Rect.unit (s := S512x512) ![0, 0] S32x512.size inb_S512x512_S32x512_0_0) (fun _ => rfl)).view.dmaCredit
theorem N_pos : 0 < N := View.dmaCredit_pos _ (by decide)

/-! ## Element sets -/

/-- Rows `32 d … 32 d + 31` of the partial buffer, slot `s` of the receive buffer, rows `128 k …` of the partial buffer. -/
def rowSet (d : Dev nD) : Finset S512x512.Idx := Finset.univ.filter fun i => (i 0).val / 32 = d.val
def slotSet (s : Dev nD) : Finset S16x32x512.Idx := Finset.univ.filter fun i => (i 0).val = s.val
def chunkSet (k : Fin 4) : Finset S512x512.Idx := Finset.univ.filter fun i => (i 0).val / 128 = k.val

/-- Device `c`'s partial buffer on rows `32 d …`, at contents `f`. -/
def rowPts (c d : Dev nD) (f : Buf (Elt F) ((c : Thread nD τ).loc cc0_scratch0)) : sProp 𝕄 :=
  ((c : Thread nD τ).loc cc0_scratch0) ↦[rowSet d]{fullShare} f
/-- Device `c`'s receive buffer on slot `s`. -/
def slotPts (c s : Dev nD) (f : Buf (Elt F) ((c : Thread nD τ).loc cc0_scratch1)) : sProp 𝕄 :=
  ((c : Thread nD τ).loc cc0_scratch1) ↦[slotSet s]{fullShare} f
/-- Device `c`'s partial buffer on rows `128 k …`. -/
def chunkPts (c : Dev nD) (k : Fin 4) (f : Buf (Elt F) ((c : Thread nD τ).loc cc0_scratch0)) : sProp 𝕄 :=
  ((c : Thread nD τ).loc cc0_scratch0) ↦[chunkSet k]{fullShare} f

omit [FloatOps F] in
instance rowPts_storable (c d : Dev nD) (f) : BI.Storable (upEmb : UEmb _ 𝕄) (rowPts (F := F) c d f) := by unfold rowPts; infer_instance
omit [FloatOps F] in
instance slotPts_storable (c d : Dev nD) (f) : BI.Storable (upEmb : UEmb _ 𝕄) (slotPts (F := F) c d f) := by unfold slotPts; infer_instance

/-! ## Contents -/

/-- What the windows stage for device `c`: the activations, the router's weights, the expert indices, the device's own
    four experts, the shared weights. -/
def xV (c : Dev nD) : Vec F S512x256 .bf16 := (win0_0.blk (0 : Fin 1)).view.read (Elt F) ((s₀ m ρ).mem ((c : Thread nD τ).loc main_arg0))
def wV (c : Dev nD) : Vec F S256x64 .bf16 := (win0_1.blk (0 : Fin 1)).view.read (Elt F) ((s₀ m ρ).mem ((c : Thread nD τ).loc main_arg1))
def eV (c : Dev nD) : Vec F S512x1 .i32 := (win0_2.blk (0 : Fin 1)).view.read (Elt F) ((s₀ m ρ).mem ((c : Thread nD τ).loc main_arg2))
def expV (c : Dev nD) : Vec F S4x256x512 .bf16 := (win0_3.blk (0 : Fin 1)).view.read (Elt F) ((s₀ m ρ).mem ((c : Thread nD τ).loc main_arg3))
def shV (c : Dev nD) : Vec F S256x512 .bf16 := (win0_4.blk (0 : Fin 1)).view.read (Elt F) ((s₀ m ρ).mem ((c : Thread nD τ).loc main_arg4))

/-- The device's number as the kernel computes it. -/
def me (c : Dev nD) : BitVec 32 := Scalar.remsi (Scalar.divsi (Dev.word c) 1#32) 16#32

/-- The four weighted copies of the activations side by side, and the four experts' weights one over the other. -/
def xsV (c : Dev nD) : FVec F S512x1024 .bf16 :=
  k0_pay5 (me c) (k0_pay1 (xV m ρ c)) (k0_pay2 (eV m ρ c)) (k0_pay3 (xV m ρ c) (wV m ρ c) (eV m ρ c))
    (k0_pay4 (me c) (xV m ρ c) (wV m ρ c) (eV m ρ c)) (Scalar.muli (me c) 4#32) 1#32
def ewV (c : Dev nD) : FVec F S1024x512 .bf16 := k0_pay6 (expV m ρ c)

/-- The four 128-row stores. -/
def chunkV (c : Dev nD) : Fin 4 → FVec F S128x512 .bf16
  | 0 => k0_pay7 (me c) (k0_pay1 (xV m ρ c)) (k0_pay2 (eV m ρ c)) (k0_pay3 (xV m ρ c) (wV m ρ c) (eV m ρ c))
    (k0_pay4 (me c) (xV m ρ c) (wV m ρ c) (eV m ρ c)) (Scalar.muli (me c) 4#32) 1#32 (expV m ρ c)
  | 1 => k0_pay8 (xsV m ρ c) (ewV m ρ c)
  | 2 => k0_pay10 (ewV m ρ c) (k0_pay9 (xsV m ρ c))
  | 3 => k0_pay11 (xsV m ρ c) (ewV m ρ c)

/-- Device `c`'s partial result: row `i` is row `i % 128` of store `i / 128`. -/
def part (c : Dev nD) : Vec F S512x512 .bf16 := fun i =>
  chunkV m ρ c ⟨(i 0).val / 128, by have : (i 0).val < 512 := (i 0).isLt; omega⟩
    (ix2 (n0 := 128) (n1 := 512) ⟨(i 0).val % 128, Nat.mod_lt _ (by decide)⟩ (i 1))

/-- Device `c`'s receive buffer once everything has landed: slot `s`, row `i` is row `32 c + i` of `part s`. -/
def landed (c : Dev nD) : Vec F S16x32x512 .bf16 := fun i =>
  part m ρ ⟨(i 0).val, (i 0).isLt⟩
    (ix2 (n0 := 512) (n1 := 512) ⟨32 * c.val + (i 1).val, by
      have h1 : (i 1).val < 32 := (i 1).isLt
      have h2 : c.val < 16 := c.isLt
      omega⟩ (i 2))

/-! ## The schedule -/

/-- What device `d`'s unit on `c`'s barrier hands `c`: slot `c` of `d`'s receive buffer, and that `d`'s receive semaphore
    number `c` is at its start. -/
def barPay (c d : Dev nD) : sProp 𝕄 := iprop((∃ f, slotPts d c f) ∗ reached ER (recvCell d c) 0)
/-- The landing in slot `s` of `c`; the return of the rows sent from `c` to `d`. -/
def recvPay (c s : Dev nD) : sProp 𝕄 := slotPts c s (landed m ρ c)
def sendPay (c d : Dev nD) : sProp 𝕄 := rowPts c d (part m ρ c)

/-- The place of a DMA semaphore of the pool in its array of sixteen. -/
def place (q : DmaSem sig) : Dev nD := ⟨(q.val - 6) % 16, Nat.mod_lt _ (by decide)⟩

/-- The duties of a semaphore of device `c` in the one round. -/
def dutiesAt (c : Dev nD) : SemLoc sig → Finset (Dev nD)
  | .reg _ => Finset.univ.erase c
  | .dma q => if 6 ≤ q.val ∧ place q ≠ c then {place q} else ∅

/-- The schedule of the exchange. -/
def Rd : Rounds.Schedule (GSem nD τ sig) (Dev nD) 𝕄 where
  duties g r := if r = 0 ∧ g.1.2 = .tc then dutiesAt g.1.1 g.2 else ∅
  unitless _ := False
  amount g _ _ := match g.2 with
    | .reg _ => 1
    | .dma _ => N
  payload g _ d := match g.2 with
    | .reg _ => barPay g.1.1 d
    | .dma q => if 22 ≤ q.val then recvPay m ρ g.1.1 (place q) else sendPay m ρ g.1.1 (place q)
  amount_pos g _ _ _ := by
    rcases g with ⟨t, s | q⟩
    · exact Nat.one_pos
    · exact N_pos

instance Rd_payload_storable (g : GSem nD τ sig) (r : ℕ) (d : Dev nD) :
    BI.Storable (upEmb : UEmb _ 𝕄) ((Rd (F := F) m ρ).payload g r d) := by
  rcases g with ⟨t, s | q⟩
  · show BI.Storable upEmb (barPay t.1 d); unfold barPay; infer_instance
  · show BI.Storable upEmb (if 22 ≤ q.val then recvPay m ρ t.1 (place q) else sendPay m ρ t.1 (place q))
    unfold recvPay sendPay; split <;> infer_instance

theorem place_send (d : Dev nD) : place (sendS d) = d := by revert d; decide
theorem place_recv (d : Dev nD) : place (recvS d) = d := by revert d; decide

section Sched
variable (c d : Dev nD)

theorem duties_bar : (Rd (F := F) m ρ).duties (barCell c) 0 = Finset.univ.erase c := by
  dsimp only [Rd]; rw [if_pos ⟨rfl, rfl⟩]; rfl
theorem duties_recv (h : d ≠ c) : (Rd (F := F) m ρ).duties (recvCell c d) 0 = {d} := by
  dsimp only [Rd]; rw [if_pos ⟨rfl, rfl⟩]
  show (if 6 ≤ (recvS d).val ∧ place (recvS d) ≠ c then {place (recvS d)} else ∅ : Finset (Dev nD)) = _
  rw [place_recv, if_pos ⟨by show 6 ≤ 22 + d.val; omega, h⟩]
theorem duties_send (h : d ≠ c) : (Rd (F := F) m ρ).duties (sendCell c d) 0 = {d} := by
  dsimp only [Rd]; rw [if_pos ⟨rfl, rfl⟩]
  show (if 6 ≤ (sendS d).val ∧ place (sendS d) ≠ c then {place (sendS d)} else ∅ : Finset (Dev nD)) = _
  rw [place_send, if_pos ⟨by show 6 ≤ 6 + d.val; omega, h⟩]
theorem duties_later (g : GSem nD τ sig) : ∀ r, 1 ≤ r → (Rd (F := F) m ρ).duties g r = ∅ :=
  fun r hr => by dsimp only [Rd]; rw [if_neg fun h => by omega]
theorem duties_recv_self : ∀ r, 0 ≤ r → (Rd (F := F) m ρ).duties (recvCell c c) r = ∅ := fun r _ => by
  dsimp only [Rd]; split
  · show (if 6 ≤ (recvS c).val ∧ place (recvS c) ≠ c then {place (recvS c)} else ∅ : Finset (Dev nD)) = _
    rw [place_recv, if_neg fun h => h.2 rfl]
  · rfl
theorem duties_send_self : ∀ r, 0 ≤ r → (Rd (F := F) m ρ).duties (sendCell c c) r = ∅ := fun r _ => by
  dsimp only [Rd]; split
  · show (if 6 ≤ (sendS c).val ∧ place (sendS c) ≠ c then {place (sendS c)} else ∅ : Finset (Dev nD)) = _
    rw [place_send, if_neg fun h => h.2 rfl]
  · rfl

theorem amount_bar (r : ℕ) (e : Dev nD) : (Rd (F := F) m ρ).amount (barCell c) r e = 1 := rfl
theorem amount_recv (r : ℕ) (e : Dev nD) : (Rd (F := F) m ρ).amount (recvCell c d) r e = N := rfl
theorem amount_send (r : ℕ) (e : Dev nD) : (Rd (F := F) m ρ).amount (sendCell c d) r e = N := rfl

theorem expect_bar : (Rd (F := F) m ρ).expect (barCell c) 0 = 15 := by
  unfold Schedule.expect Schedule.amountOf
  rw [duties_bar, Finset.sum_congr rfl fun d _ => amount_bar m ρ c 0 d, Finset.sum_const, smul_eq_mul, Finset.card_erase_of_mem (Finset.mem_univ _)]
  rfl
theorem expect_recv (h : d ≠ c) : (Rd (F := F) m ρ).expect (recvCell c d) 0 = N := by
  unfold Schedule.expect Schedule.amountOf; rw [duties_recv m ρ c d h, Finset.sum_singleton, amount_recv]
theorem expect_send (h : d ≠ c) : (Rd (F := F) m ρ).expect (sendCell c d) 0 = N := by
  unfold Schedule.expect Schedule.amountOf; rw [duties_send m ρ c d h, Finset.sum_singleton, amount_send]

theorem payload_bar (r : ℕ) (e : Dev nD) : (Rd (F := F) m ρ).payload (barCell c) r e = barPay c e := rfl
theorem payload_recv (r : ℕ) (e : Dev nD) : (Rd (F := F) m ρ).payload (recvCell c d) r e = recvPay m ρ c d := by
  show (if 22 ≤ (recvS d).val then recvPay m ρ c (place (recvS d)) else sendPay m ρ c (place (recvS d))) = _
  rw [place_recv, if_pos (by show 22 ≤ 22 + d.val; omega)]
theorem payload_send (r : ℕ) (e : Dev nD) : (Rd (F := F) m ρ).payload (sendCell c d) r e = sendPay m ρ c d := by
  show (if 22 ≤ (sendS d).val then recvPay m ρ c (place (sendS d)) else sendPay m ρ c (place (sendS d))) = _
  rw [place_send, if_neg (by show ¬ 22 ≤ 6 + d.val; have h : d.val < 16 := d.isLt; omega)]

/-- What the whole round of a cell pays out. -/
theorem rest_bar : bigSep ((Rd (F := F) m ρ).duties (barCell c) 0 \ ∅) (fun e => (Rd (F := F) m ρ).payload (barCell c) 0 e)
    = bigSep (Finset.univ.erase c) fun e => barPay (F := F) c e := by
  rw [Finset.sdiff_empty, duties_bar]; rfl
theorem rest_recv (h : d ≠ c) : bigSep ((Rd (F := F) m ρ).duties (recvCell c d) 0 \ ∅) (fun e => (Rd (F := F) m ρ).payload (recvCell c d) 0 e)
    = recvPay m ρ c d := by
  rw [Finset.sdiff_empty, duties_recv m ρ c d h, bigSep_singleton, payload_recv]
theorem rest_send (h : d ≠ c) : bigSep ((Rd (F := F) m ρ).duties (sendCell c d) 0 \ ∅) (fun e => (Rd (F := F) m ρ).payload (sendCell c d) 0 e)
    = sendPay m ρ c d := by
  rw [Finset.sdiff_empty, duties_send m ρ c d h, bigSep_singleton, payload_send]

end Sched

/-! ## What each device owes at launch; the levels -/

/-- The barrier units device `c` still owes from its signal `k` on, and the copies it still owes from peer `j` on. -/
def owB (c : Dev nD) (k : ℕ) : CellTallies nD τ sig Unit := ∑ i ∈ rangeSet 16 k 16, tallyAt (barCell (peer c i)) () 1
def owR (c : Dev nD) (j : ℕ) : CellTallies nD τ sig Unit := ∑ d ∈ rangeSet 16 j 16, if d = c then 0 else tallyAt (recvCell d c) () N
/-- All of it. -/
def O₀ (c : Dev nD) : CellTallies nD τ sig Unit := owB c 1 + owR c 0

theorem sum_rangeSet_head {A : Type} [AddCommMonoid A] (f : Fin 16 → A) {lo : ℕ} (h : lo < 16) :
    ∑ i ∈ rangeSet 16 lo 16, f i = ∑ i ∈ rangeSet 16 (lo + 1) 16, f i + f ⟨lo, h⟩ := by
  rw [Ring.rangeSet_head h h, Finset.sum_insert (Ring.head_not_mem_rangeSet h), add_comm]

theorem owB_step (c : Dev nD) (k : Fin 16) : owB c k.val = owB c (k.val + 1) + tallyAt (barCell (peer c k)) () 1 :=
  sum_rangeSet_head _ k.isLt
theorem owR_step (c : Dev nD) (j : Dev nD) : owR c j.val = owR c (j.val + 1) + (if j = c then 0 else tallyAt (recvCell j c) () N) :=
  sum_rangeSet_head (fun d : Fin 16 => if (d : Dev nD) = c then (0 : CellTallies nD τ sig Unit) else tallyAt (recvCell d c) () N) j.isLt
theorem owB_end (c : Dev nD) : owB c 16 = 0 := by unfold owB; rw [rangeSet_empty le_rfl, Finset.sum_empty]
theorem owR_end (c : Dev nD) : owR c 16 = 0 := by unfold owR; rw [rangeSet_empty le_rfl, Finset.sum_empty]

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c d : Dev nD) (u : Unit) : lv (recvCell c d) u = 2 := if_pos (show 22 ≤ 22 + d.val by omega)
theorem lv_bar (c : Dev nD) (u : Unit) : lv (barCell c) u = 1 := rfl

theorem sum_tally_pos {ι : Type} (S : Finset ι) (f : ι → CellTallies nD τ sig Unit) {g : GSem nD τ sig} {u : Unit}
    (h : 0 < (∑ i ∈ S, f i) g u) : ∃ i ∈ S, 0 < f i g u := by
  by_contra hn
  push Not at hn
  rw [Finset.sum_apply, Finsupp.finset_sum_apply, Finset.sum_eq_zero fun i hi => Nat.le_zero.mp (hn i hi)] at h
  exact Nat.lt_irrefl 0 h

theorem tally_pos {g' g : GSem nD τ sig} {u : Unit} {n : ℕ} (h : 0 < (tallyAt g' () n : CellTallies nD τ sig Unit) g u) : g = g' := by
  by_contra hn
  rw [tallyAt_apply, if_neg fun e => hn e.1] at h
  exact Nat.lt_irrefl 0 h

theorem owB_pos {c : Dev nD} {k : ℕ} {g : GSem nD τ sig} {u : Unit} (h : 0 < owB c k g u) : ∃ d, g = barCell d := by
  obtain ⟨i, -, hi⟩ := sum_tally_pos _ _ h
  exact ⟨_, tally_pos hi⟩
theorem owR_pos {c : Dev nD} {j : ℕ} {g : GSem nD τ sig} {u : Unit} (h : 0 < owR c j g u) : ∃ d, g = recvCell d c := by
  obtain ⟨i, -, hi⟩ := sum_tally_pos _ _ h
  split at hi
  · exact absurd hi (Nat.lt_irrefl 0)
  · exact ⟨_, tally_pos hi⟩
theorem O₀_pos {c : Dev nD} {g : GSem nD τ sig} {u : Unit} (h : 0 < O₀ c g u) : (∃ d, g = barCell d) ∨ ∃ d, g = recvCell d c := by
  unfold O₀ at h
  rw [Pi.add_apply, Finsupp.add_apply] at h
  rcases Nat.eq_zero_or_pos (owB c 1 g u) with h0 | h0
  · rw [h0, Nat.zero_add] at h; exact .inr (owR_pos h)
  · exact .inl (owB_pos h0)

/-- The windows' staging waits are below everything owed. -/
theorem mayWait_stage (c : Dev nD) (q : DmaSem sig) (hq : q.val < 22) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; dsimp only [lv]; rw [if_neg (by omega)])
      (fun g u hg => by
        rcases O₀_pos hg with ⟨d, rfl⟩ | ⟨d, rfl⟩
        · rw [lv_bar]; decide
        · rw [lv_recv]; decide)
  · rw [MayWait_zero]; iintro -; iempintro

/-- At its barrier wait a device owes copies only: receive cells, above its barrier cell. -/
theorem mayWait_bar (c : Dev nD) : (levAts L lv : sProp 𝕄) ⊢ MayWait (c : Thread nD τ) (.reg barS) () (owR c 0) :=
  MayOwe.of_cut (L := L) (lev := lv) 1 (fun p hp => by rw [Finset.mem_singleton.mp hp, L_tc]; exact Finset.mem_singleton_self _)
    (fun g u hg => by obtain ⟨d, rfl⟩ := owR_pos hg; exact Finset.mem_singleton_self _)
    (fun p hp => by rw [Finset.mem_singleton.mp hp]; exact le_rfl)
    (fun g u hg => by obtain ⟨d, rfl⟩ := owR_pos hg; rw [lv_recv]; decide)

/-! ## The cells all together -/

/-- The 33 semaphores of the exchange on a device: the barrier's, and the 32 of the two arrays in order. -/
abbrev CK : Type := Dev nD × Option (Fin 32)
abbrev osem : Fin 32 → SemLoc sig := fun i => .dma ⟨6 + i.val, by have := i.isLt; show 6 + i.val < 38; omega⟩
abbrev csem : Option (Fin 32) → SemLoc sig
  | none => .reg barS
  | some i => osem i
abbrev kcell (ck : CK) : GSem nD τ sig := ((ck.1 : Thread nD τ), csem ck.2)

/-- Where the named cells are among them. -/
def sendIx (d : Dev nD) : Option (Fin 32) := some ⟨d.val, by have h : d.val < 16 := d.isLt; omega⟩
def recvIx (d : Dev nD) : Option (Fin 32) := some ⟨16 + d.val, by have h : d.val < 16 := d.isLt; omega⟩
theorem kcell_send (c d : Dev nD) : kcell (c, sendIx d) = sendCell c d := rfl
theorem kcell_recv (c d : Dev nD) : kcell (c, recvIx d) = recvCell c d := by
  revert d; intro d
  refine Prod.ext rfl ?_
  show SemLoc.dma _ = SemLoc.dma _
  refine congrArg _ (Fin.ext ?_)
  show 6 + (16 + d.val) = 22 + d.val
  omega

/-- Every cell's invariant, under the names `K` it was allocated at, and that every cell is at its start: what all
    devices share. -/
def records (K : CK → ℕ) : sProp 𝕄 :=
  iprop((bigSep Finset.univ fun ck : CK => cellInv ER (Rd m ρ) (K ck) (kcell ck))
    ∗ bigSep Finset.univ fun ck : CK => reached ER (kcell ck) 0)

instance records_persistent (K : CK → ℕ) : BI.Persistent (records m ρ K) := by unfold records; infer_instance

theorem inv_at (K : CK → ℕ) (ck : CK) : records m ρ K ⊢ cellInv ER (Rd m ρ) (K ck) (kcell ck) :=
  sep_elim_left.trans (bigSep_elim (Finset.mem_univ ck))
theorem reached_at (K : CK → ℕ) (ck : CK) : records m ρ K ⊢ reached ER (kcell ck) 0 :=
  sep_elim_right.trans (bigSep_elim (Finset.mem_univ ck))

theorem inv_bar (K : CK → ℕ) (c : Dev nD) : records m ρ K ⊢ cellInv ER (Rd m ρ) (K (c, none)) (barCell c) := inv_at m ρ K (c, none)
theorem inv_send (K : CK → ℕ) (c d : Dev nD) : records m ρ K ⊢ cellInv ER (Rd m ρ) (K (c, sendIx d)) (sendCell c d) := inv_at m ρ K (c, sendIx d)
theorem inv_recv (K : CK → ℕ) (c d : Dev nD) : records m ρ K ⊢ cellInv ER (Rd m ρ) (K (c, recvIx d)) (recvCell c d) := by
  have h := inv_at m ρ K (c, recvIx d); rwa [kcell_recv] at h
theorem reached_bar (K : CK → ℕ) (c : Dev nD) : records m ρ K ⊢ reached ER (barCell c) 0 := reached_at m ρ K (c, none)
theorem reached_send (K : CK → ℕ) (c d : Dev nD) : records m ρ K ⊢ reached ER (sendCell c d) 0 := reached_at m ρ K (c, sendIx d)
theorem reached_recv (K : CK → ℕ) (c d : Dev nD) : records m ρ K ⊢ reached ER (recvCell c d) 0 := by
  have h := reached_at m ρ K (c, recvIx d); rwa [kcell_recv] at h

end Cert.Moe

end
-- ==== Proof.Geometry.lean ====
/-
# Where the kernel's slices lie

The offsets and devices the kernel computes, in closed form, and the sets of buffer elements its slices reach: slot `s`
of the receive buffer, rows `32 d …` and rows `128 k …` of the partial buffer. What a copy of rows leaves in a slot, and
what the four stores leave in the partial buffer.
-/
module

public import proofs.«01_k».proof.Proof.Protocol

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Ring (rangeSet mem_rangeSet rangeSet_univ rangeSet_empty)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores of the two arrays -/

theorem sem_send (s : Dev nD) (o : Fin 1 → ℕ) (ho : o = ![s.val]) (h : ∀ a, o a + S1.size a ≤ S16.size a) (hq : S1.Squeezes S_) :
    ((cc0_scratch2.slice (Rect.unit (s := S16) o S1.size h)).squeeze S_ hq).sem = sendS s := by
  subst ho
  apply Fin.ext
  show 6 + (S16.rowMajor ((Rect.unit (s := S16) ![s.val] S1.size h).emb (Shape.reshapeEquiv hq.numel_eq (fun i => i.elim0)))).val = 6 + s.val
  rw [Shape.rowMajor_val_one, Rect.emb_apply]
  have h0 : ((Shape.reshapeEquiv hq.numel_eq (fun i => i.elim0) : S1.Idx) 0).val = 0 := by
    have := ((Shape.reshapeEquiv hq.numel_eq (fun i => i.elim0) : S1.Idx) 0).isLt
    change _ < 1 at this
    omega
  show 6 + (s.val + 1 * ((Shape.reshapeEquiv hq.numel_eq (fun i => i.elim0) : S1.Idx) 0).val) = 6 + s.val
  omega
theorem sem_recv (s : Dev nD) (o : Fin 1 → ℕ) (ho : o = ![s.val]) (h : ∀ a, o a + S1.size a ≤ S16.size a) (hq : S1.Squeezes S_) :
    ((cc0_scratch3.slice (Rect.unit (s := S16) o S1.size h)).squeeze S_ hq).sem = recvS s := by
  subst ho
  apply Fin.ext
  show 22 + (S16.rowMajor ((Rect.unit (s := S16) ![s.val] S1.size h).emb (Shape.reshapeEquiv hq.numel_eq (fun i => i.elim0)))).val = 22 + s.val
  rw [Shape.rowMajor_val_one, Rect.emb_apply]
  have h0 : ((Shape.reshapeEquiv hq.numel_eq (fun i => i.elim0) : S1.Idx) 0).val = 0 := by
    have := ((Shape.reshapeEquiv hq.numel_eq (fun i => i.elim0) : S1.Idx) 0).isLt
    change _ < 1 at this
    omega
  show 22 + (s.val + 1 * ((Shape.reshapeEquiv hq.numel_eq (fun i => i.elim0) : S1.Idx) 0).val) = 22 + s.val
  omega

/-! ## Slots of the receive buffer, rows of the partial buffer -/

theorem mem_slotSet {s : Dev nD} {i : S16x32x512.Idx} : i ∈ slotSet s ↔ (i 0).val = s.val := by
  unfold slotSet; rw [Finset.mem_filter]; exact ⟨fun h => h.2, fun h => ⟨Finset.mem_univ _, h⟩⟩
theorem mem_rowSet {d : Dev nD} {i : S512x512.Idx} : i ∈ rowSet d ↔ (i 0).val / 32 = d.val := by
  unfold rowSet; rw [Finset.mem_filter]; exact ⟨fun h => h.2, fun h => ⟨Finset.mem_univ _, h⟩⟩
theorem mem_chunkSet {k : Fin 4} {i : S512x512.Idx} : i ∈ chunkSet k ↔ (i 0).val / 128 = k.val := by
  unfold chunkSet; rw [Finset.mem_filter]; exact ⟨fun h => h.2, fun h => ⟨Finset.mem_univ _, h⟩⟩

/-- The box of slot `s`. -/
theorem slot_box (s : Dev nD) (o : Fin 3 → ℕ) (ho : o = ![s.val, 0, 0]) (h : ∀ a, o a + S1x32x512.size a ≤ S16x32x512.size a) :
    (Rect.unit (s := S16x32x512) o S1x32x512.size h).set = slotSet s := by
  subst ho
  ext i
  rw [Rect.mem_set_unit, mem_slotSet]
  have h1 : (i 1).val < 32 := (i 1).isLt
  have h2 : (i 2).val < 512 := (i 2).isLt
  constructor
  · intro hh
    have := hh 0
    change s.val ≤ (i 0).val ∧ (i 0).val < s.val + 1 at this
    omega
  · intro hh a
    fin_cases a
    · show s.val ≤ (i 0).val ∧ (i 0).val < s.val + 1; omega
    · show 0 ≤ (i 1).val ∧ (i 1).val < 0 + 32; omega
    · show 0 ≤ (i 2).val ∧ (i 2).val < 0 + 512; omega
/-- The box of rows `32 d …`. -/
theorem row_box (d : Dev nD) (o : Fin 2 → ℕ) (ho : o = ![32 * d.val, 0]) (h : ∀ a, o a + S32x512.size a ≤ S512x512.size a) :
    (Rect.unit (s := S512x512) o S32x512.size h).set = rowSet d := by
  subst ho
  ext i
  rw [Rect.mem_set_unit, mem_rowSet]
  have h1 : (i 1).val < 512 := (i 1).isLt
  constructor
  · intro hh
    have := hh 0
    change 32 * d.val ≤ (i 0).val ∧ (i 0).val < 32 * d.val + 32 at this
    omega
  · intro hh a
    fin_cases a
    · show 32 * d.val ≤ (i 0).val ∧ (i 0).val < 32 * d.val + 32; omega
    · show 0 ≤ (i 1).val ∧ (i 1).val < 0 + 512; omega
/-- The box of rows `128 k …`. -/
theorem chunk_box (k : Fin 4) (o : Fin 2 → ℕ) (ho : o = ![128 * k.val, 0]) (h : ∀ a, o a + S128x512.size a ≤ S512x512.size a) :
    (Rect.unit (s := S512x512) o S128x512.size h).set = chunkSet k := by
  subst ho
  ext i
  rw [Rect.mem_set_unit, mem_chunkSet]
  have h1 : (i 1).val < 512 := (i 1).isLt
  constructor
  · intro hh
    have := hh 0
    change 128 * k.val ≤ (i 0).val ∧ (i 0).val < 128 * k.val + 128 at this
    omega
  · intro hh a
    fin_cases a
    · show 128 * k.val ≤ (i 0).val ∧ (i 0).val < 128 * k.val + 128; omega
    · show 0 ≤ (i 1).val ∧ (i 1).val < 0 + 512; omega

theorem slot_view_set (s : Dev nD) (o : Fin 3 → ℕ) (ho : o = ![s.val, 0, 0]) (h : ∀ a, o a + S1x32x512.size a ≤ S16x32x512.size a) (h') (hq : S1x32x512.Squeezes S32x512) :
    ((recvM.slice (Rect.unit (s := S16x32x512) o S1x32x512.size h) h').squeeze S32x512 hq).view.set = slotSet s := by
  rw [Memref.set_view_squeeze]
  exact (View.set_slice_whole _ _).trans (slot_box s o ho h)
theorem row_view_set (d : Dev nD) (o : Fin 2 → ℕ) (ho : o = ![32 * d.val, 0]) (h : ∀ a, o a + S32x512.size a ≤ S512x512.size a) (h') :
    (partM.slice (Rect.unit (s := S512x512) o S32x512.size h) h').view.set = rowSet d :=
  (View.set_slice_whole _ _).trans (row_box d o ho h)

/-- Slot `c` of device `j`'s receive buffer once rows `32 j …` of `part c` have landed in it. -/
theorem landing (c j : Dev nD) (o : Fin 2 → ℕ) (ho : o = ![32 * j.val, 0]) (h : ∀ a, o a + S32x512.size a ≤ S512x512.size a) (h₁)
    (o' : Fin 3 → ℕ) (ho' : o' = ![c.val, 0, 0]) (h' : ∀ a, o' a + S1x32x512.size a ≤ S16x32x512.size a) (h₁') (hq : S1x32x512.Squeezes S32x512)
    (fd : Buf (Elt F) ((j : Thread nD τ).loc cc0_scratch1)) (i : S16x32x512.Idx) (hi : i ∈ slotSet c) :
    ((recvM.slice (Rect.unit (s := S16x32x512) o' S1x32x512.size h') h₁').squeeze S32x512 hq).view.write (Elt F) fd
      ((partM.slice (Rect.unit (s := S512x512) o S32x512.size h) h₁).view.read (Elt F) (part m ρ c)) Finset.univ i = landed m ρ j i := by
  rw [← slot_view_set c o' ho' h' h₁' hq] at hi
  obtain ⟨x, -, rfl⟩ := Finset.mem_map.mp hi
  rw [View.write_emb_of_mem _ _ (Finset.mem_univ _)]
  subst ho ho'
  obtain ⟨a, b, rfl⟩ : ∃ (a : Fin 32) (b : Fin 512), x = ix2 (n0 := 32) (n1 := 512) a b := ⟨x 0, x 1, eq_ix2 x⟩
  have hv : ((recvM.slice (Rect.unit (s := S16x32x512) ![c.val, 0, 0] S1x32x512.size h') h₁').squeeze S32x512 hq).view.emb (ix2 (n0 := 32) (n1 := 512) a b)
      = ix3 (n0 := 16) (n1 := 32) (n2 := 512) c a b := by
    show (Rect.unit (s := S16x32x512) ![c.val, 0, 0] S1x32x512.size h').emb (Shape.reshapeEquiv _ (ix2 (n0 := 32) (n1 := 512) a b)) = _
    erw [reshapeEquiv_ix2_1ab]
    funext k
    apply Fin.ext
    rw [Rect.emb_apply]
    fin_cases k
    · show c.val + 1 * 0 = c.val; omega
    · show 0 + 1 * a.val = a.val; omega
    · show 0 + 1 * b.val = b.val; omega
  have hu : (partM.slice (Rect.unit (s := S512x512) ![32 * j.val, 0] S32x512.size h) h₁).view.emb (ix2 (n0 := 32) (n1 := 512) a b)
      = ix2 (n0 := 512) (n1 := 512) ⟨32 * j.val + a.val, by have h1 : j.val < 16 := j.isLt; omega⟩ b := by
    show (Rect.unit (s := S512x512) ![32 * j.val, 0] S32x512.size h).emb (ix2 (n0 := 32) (n1 := 512) a b) = _
    funext k
    apply Fin.ext
    rw [Rect.emb_apply]
    fin_cases k
    · show 32 * j.val + 1 * a.val = 32 * j.val + a.val; omega
    · show 0 + 1 * b.val = b.val; omega
  rw [hv]
  show part m ρ c ((partM.slice (Rect.unit (s := S512x512) ![32 * j.val, 0] S32x512.size h) h₁).view.emb (ix2 (n0 := 32) (n1 := 512) a b)) = _
  rw [hu]
  rfl

/-- The partial buffer on rows `128 k …` once store `k` is done. -/
theorem stored (c : Dev nD) (k : Fin 4) (o : Fin 2 → ℕ) (ho : o = ![128 * k.val, 0]) (h : ∀ a, o a + S128x512.size a ≤ S512x512.size a)
    (f : Buf (Elt F) ((c : Thread nD τ).loc cc0_scratch0)) (i : S512x512.Idx) (hi : i ∈ chunkSet k) :
    (partM.access (Rect.unit (s := S512x512) o S128x512.size h)).write (Elt F) f (chunkV m ρ c k) Finset.univ i = part m ρ c i := by
  have hs : (partM.access (Rect.unit (s := S512x512) o S128x512.size h)).set = chunkSet k := (View.set_slice_whole _ _).trans (chunk_box k o ho h)
  rw [← hs] at hi
  obtain ⟨x, -, rfl⟩ := Finset.mem_map.mp hi
  rw [View.write_emb_of_mem _ _ (Finset.mem_univ _)]
  subst ho
  obtain ⟨a, b, rfl⟩ : ∃ (a : Fin 128) (b : Fin 512), x = ix2 (n0 := 128) (n1 := 512) a b := ⟨x 0, x 1, eq_ix2 x⟩
  have hu : (partM.access (Rect.unit (s := S512x512) ![128 * k.val, 0] S128x512.size h)).emb (ix2 (n0 := 128) (n1 := 512) a b)
      = ix2 (n0 := 512) (n1 := 512) ⟨128 * k.val + a.val, by omega⟩ b := by
    show (Rect.unit (s := S512x512) ![128 * k.val, 0] S128x512.size h).emb (ix2 (n0 := 128) (n1 := 512) a b) = _
    funext k'
    apply Fin.ext
    rw [Rect.emb_apply]
    fin_cases k'
    · show 128 * k.val + 1 * a.val = 128 * k.val + a.val; omega
    · show 0 + 1 * b.val = b.val; omega
  rw [hu]
  show chunkV m ρ c k (ix2 (n0 := 128) (n1 := 512) a b)
    = chunkV m ρ c ⟨(128 * k.val + a.val) / 128, _⟩ (ix2 (n0 := 128) (n1 := 512) ⟨(128 * k.val + a.val) % 128, _⟩ b)
  have e1 : (⟨(128 * k.val + a.val) / 128, by omega⟩ : Fin 4) = k := Fin.ext (by show (128 * k.val + a.val) / 128 = k.val; omega)
  have e2 : (⟨(128 * k.val + a.val) % 128, by omega⟩ : Fin 128) = a := Fin.ext (by show (128 * k.val + a.val) % 128 = a.val; omega)
  rw [e1, e2]

/-- Device `c`'s own rows of its partial result, and its own rows of the activations. -/
def myRows (c : Dev nD) : Vec F S32x512 .bf16 := fun i =>
  part m ρ c (ix2 (n0 := 512) (n1 := 512) ⟨32 * c.val + (i 0).val, by
    have h1 : (i 0).val < 32 := (i 0).isLt
    have h2 : c.val < 16 := c.isLt
    omega⟩ (i 1))
def xRows (c : Dev nD) : Vec F S32x256 .bf16 := fun i =>
  xV m ρ c (ix2 (n0 := 512) (n1 := 256) ⟨32 * c.val + (i 0).val, by
    have h1 : (i 0).val < 32 := (i 0).isLt
    have h2 : c.val < 16 := c.isLt
    omega⟩ (i 1))

theorem read_myRows (c : Dev nD) (o : Fin 2 → ℕ) (ho : o = ![32 * c.val, 0]) (h : ∀ a, o a + S32x512.size a ≤ S512x512.size a) :
    partM.view.readAt (Elt F) (Rect.unit (s := S512x512) o S32x512.size h).toLoadRect (part m ρ c) = myRows m ρ c := by
  subst ho
  funext i
  show part m ρ c _ = part m ρ c _
  congr 1
  funext k
  apply Fin.ext
  fin_cases k
  · show 32 * c.val + 1 * (i 0).val = 32 * c.val + (i 0).val; omega
  · show 0 + 1 * (i 1).val = (i 1).val; omega
theorem read_xRows (c : Dev nD) (o : Fin 2 → ℕ) (ho : o = ![32 * c.val, 0]) (h : ∀ a, o a + S32x256.size a ≤ S512x256.size a) :
    xM.view.readAt (Elt F) (Rect.unit (s := S512x256) o S32x256.size h).toLoadRect (xV m ρ c) = xRows m ρ c := by
  subst ho
  funext i
  show xV m ρ c _ = xV m ρ c _
  congr 1
  funext k
  apply Fin.ext
  fin_cases k
  · show 32 * c.val + 1 * (i 0).val = 32 * c.val + (i 0).val; omega
  · show 0 + 1 * (i 1).val = (i 1).val; omega

/-- The receive buffer on the device's own slot once its own rows are stored there. -/
theorem own_slot (c : Dev nD) (o : Fin 3 → ℕ) (ho : o = ![c.val, 0, 0]) (h : ∀ a, o a + S1x32x512.size a ≤ S16x32x512.size a)
    (f : Buf (Elt F) ((c : Thread nD τ).loc cc0_scratch1)) (i : S16x32x512.Idx) (hi : i ∈ slotSet c) :
    (recvM.access (Rect.unit (s := S16x32x512) o S1x32x512.size h)).write (Elt F) f (k0_pay13 (myRows m ρ c)) Finset.univ i = landed m ρ c i := by
  have hs : (recvM.access (Rect.unit (s := S16x32x512) o S1x32x512.size h)).set = slotSet c := (View.set_slice_whole _ _).trans (slot_box c o ho h)
  rw [← hs] at hi
  obtain ⟨x, -, rfl⟩ := Finset.mem_map.mp hi
  rw [View.write_emb_of_mem _ _ (Finset.mem_univ _)]
  subst ho
  obtain ⟨u, a, b, rfl⟩ : ∃ (u : Fin 1) (a : Fin 32) (b : Fin 512), x = ix3 (n0 := 1) (n1 := 32) (n2 := 512) u a b := ⟨x 0, x 1, x 2, eq_ix3 x⟩
  have hu : (recvM.access (Rect.unit (s := S16x32x512) ![c.val, 0, 0] S1x32x512.size h)).emb (ix3 (n0 := 1) (n1 := 32) (n2 := 512) u a b)
      = ix3 (n0 := 16) (n1 := 32) (n2 := 512) c a b := by
    show (Rect.unit (s := S16x32x512) ![c.val, 0, 0] S1x32x512.size h).emb (ix3 (n0 := 1) (n1 := 32) (n2 := 512) u a b) = _
    funext k'
    apply Fin.ext
    rw [Rect.emb_apply]
    fin_cases k'
    · show c.val + 1 * u.val = c.val; omega
    · show 0 + 1 * a.val = a.val; omega
    · show 0 + 1 * b.val = b.val; omega
  rw [hu]
  show k0_pay13 (myRows m ρ c) (ix3 (n0 := 1) (n1 := 32) (n2 := 512) u a b) = _
  unfold k0_pay13
  rw [shapeCast_self, shapeCast_ab_1ab_apply]
  rfl

/-! ## Splitting and rejoining the two buffers -/

theorem slot_disjoint {s t : Dev nD} (h : s ≠ t) : Disjoint (slotSet s) (slotSet t) := by
  rw [Finset.disjoint_left]
  intro i hi hj
  exact h (Fin.ext ((mem_slotSet.mp hi).symm.trans (mem_slotSet.mp hj)))
theorem slot_cover : (Finset.univ : Finset (Dev nD)).biUnion slotSet = Finset.univ := by
  ext i
  simp only [Finset.mem_biUnion, Finset.mem_univ, true_and, iff_true]
  exact ⟨⟨(i 0).val, (i 0).isLt⟩, mem_slotSet.mpr rfl⟩
theorem row_disjoint {s t : Dev nD} (h : s ≠ t) : Disjoint (rowSet s) (rowSet t) := by
  rw [Finset.disjoint_left]
  intro i hi hj
  exact h (Fin.ext ((mem_rowSet.mp hi).symm.trans (mem_rowSet.mp hj)))
theorem row_cover : (Finset.univ : Finset (Dev nD)).biUnion rowSet = Finset.univ := by
  ext i
  simp only [Finset.mem_biUnion, Finset.mem_univ, true_and, iff_true]
  have h0 : (i 0).val < 512 := (i 0).isLt
  exact ⟨⟨(i 0).val / 32, by show _ < 16; omega⟩, mem_rowSet.mpr rfl⟩
theorem chunk_disjoint {s t : Fin 4} (h : s ≠ t) : Disjoint (chunkSet s) (chunkSet t) := by
  rw [Finset.disjoint_left]
  intro i hi hj
  exact h (Fin.ext ((mem_chunkSet.mp hi).symm.trans (mem_chunkSet.mp hj)))
theorem chunk_cover : (Finset.univ : Finset (Fin 4)).biUnion chunkSet = Finset.univ := by
  ext i
  simp only [Finset.mem_biUnion, Finset.mem_univ, true_and, iff_true]
  have h0 : (i 0).val < 512 := (i 0).isLt
  exact ⟨⟨(i 0).val / 128, by omega⟩, mem_chunkSet.mpr rfl⟩
theorem chunk_rows (k : Fin 4) : (rangeSet 16 (4 * k.val) (4 * k.val + 4)).biUnion (fun d : Fin 16 => rowSet d) = chunkSet k := by
  ext i
  simp only [Finset.mem_biUnion, mem_rangeSet, mem_chunkSet, mem_rowSet]
  have h0 : (i 0).val < 512 := (i 0).isLt
  constructor
  · rintro ⟨d, ⟨h1, h2⟩, h3⟩; omega
  · intro h
    exact ⟨⟨(i 0).val / 32, by omega⟩, ⟨by show 4 * k.val ≤ (i 0).val / 32; omega, by show (i 0).val / 32 < 4 * k.val + 4; omega⟩, rfl⟩

/-- The whole receive buffer is its sixteen slots. -/
theorem recv_split (c : Dev nD) (f : Buf (Elt F) ((c : Thread nD τ).loc cc0_scratch1)) :
    ((((c : Thread nD τ).loc cc0_scratch1) ↦{fullShare} f) : sProp 𝕄) = bigSep Finset.univ fun s : Dev nD => slotPts c s f := by
  have h := Ring.pointsTo_blocks (ℓ := (c : Thread nD τ).loc cc0_scratch1) (q := fullShare) (Val := Elt F) (Ix := Unit) (Lvl := ℕ) (U := UU) (Name := ℕ)
    (fun s : Dev nD => slotSet s) (fun s t h => slot_disjoint h) (by
      ext i
      rw [Finset.mem_biUnion]
      refine ⟨fun _ => Finset.mem_univ _, fun _ => ?_⟩
      obtain ⟨s, -, hs⟩ := Finset.mem_biUnion.mp (slot_cover.symm ▸ Finset.mem_univ (α := S16x32x512.Idx) i)
      exact ⟨s, Finset.mem_univ _, hs⟩) f
  exact h
/-- The whole partial buffer is its sixteen blocks of rows, -/
theorem part_split (c : Dev nD) (f : Buf (Elt F) ((c : Thread nD τ).loc cc0_scratch0)) :
    ((((c : Thread nD τ).loc cc0_scratch0) ↦{fullShare} f) : sProp 𝕄) = bigSep Finset.univ fun s : Dev nD => rowPts c s f := by
  have h := Ring.pointsTo_blocks (ℓ := (c : Thread nD τ).loc cc0_scratch0) (q := fullShare) (Val := Elt F) (Ix := Unit) (Lvl := ℕ) (U := UU) (Name := ℕ)
    (fun s : Dev nD => rowSet s) (fun s t h => row_disjoint h) (by
      ext i
      rw [Finset.mem_biUnion]
      refine ⟨fun _ => Finset.mem_univ _, fun _ => ?_⟩
      obtain ⟨s, -, hs⟩ := Finset.mem_biUnion.mp (row_cover.symm ▸ Finset.mem_univ (α := S512x512.Idx) i)
      exact ⟨s, Finset.mem_univ _, hs⟩) f
  exact h
/-- its four blocks of 128 rows, -/
theorem part_chunks (c : Dev nD) (f : Buf (Elt F) ((c : Thread nD τ).loc cc0_scratch0)) :
    ((((c : Thread nD τ).loc cc0_scratch0) ↦{fullShare} f) : sProp 𝕄) = bigSep Finset.univ fun k : Fin 4 => chunkPts c k f := by
  have h := Ring.pointsTo_blocks (ℓ := (c : Thread nD τ).loc cc0_scratch0) (q := fullShare) (Val := Elt F) (Ix := Unit) (Lvl := ℕ) (U := UU) (Name := ℕ)
    (fun s : Fin 4 => chunkSet s) (fun s t h => chunk_disjoint h) (by
      ext i
      rw [Finset.mem_biUnion]
      refine ⟨fun _ => Finset.mem_univ _, fun _ => ?_⟩
      obtain ⟨s, -, hs⟩ := Finset.mem_biUnion.mp (chunk_cover.symm ▸ Finset.mem_univ (α := S512x512.Idx) i)
      exact ⟨s, Finset.mem_univ _, hs⟩) f
  exact h
/-- and each of these is four of the sixteen. -/
theorem chunk_split (c : Dev nD) (k : Fin 4) (f : Buf (Elt F) ((c : Thread nD τ).loc cc0_scratch0)) :
    (chunkPts c k f : sProp 𝕄) = bigSep (rangeSet 16 (4 * k.val) (4 * k.val + 4)) fun d : Fin 16 => rowPts c d f := by
  have h := pointsTo_biUnion (ℓ := (c : Thread nD τ).loc cc0_scratch0) (q := fullShare) (f := f) (Val := Elt F) (Ix := Unit) (Lvl := ℕ) (U := UU) (Name := ℕ)
    (rangeSet 16 (4 * k.val) (4 * k.val + 4)) (fun d : Fin 16 => rowSet d) (fun s _ t _ h => row_disjoint h)
  refine Eq.trans ?_ h
  unfold chunkPts
  rw [← chunk_rows]

/-! ## Devices -/

theorem peer_zero (c : Dev nD) : peer c 0 = c := by revert c; decide
theorem peer_ne (c : Dev nD) (k : Fin 16) (h : 1 ≤ k.val) : peer c k ≠ c := by revert h; revert k c; decide
/-- The devices in order from `c`, as a permutation. -/
def peerEquiv (c : Dev nD) : Fin 16 ≃ Dev nD where
  toFun := peer c
  invFun d := ⟨(d.val + (16 - c.val)) % 16, Nat.mod_lt _ (by decide)⟩
  left_inv k := by revert k c; decide
  right_inv d := by revert d c; decide

end Cert.Moe

end
-- ==== Proof.Steps.lean ====
/-
# The kernel's operations, one rule each

The body of a device is a run of a few kinds of operation, repeated: a signal to the next peer's barrier, the barrier
wait, a 128-row store, a copy of 32 rows to a peer (absent for the device itself), a wait for a landing, a wait for a
copy to have left. Each kind gets one rule over the exchange's state before and after it, at any index; the body's
proof is their composition.

The state goes through four phases: `SigSt c k` (signals from the `k`-th on still to send), `SendSt c j e` (copies from
peer `j` on still to start, rows up to block `e` stored), `RecvSt c k` (landings from the `k`-th on still to wait for),
`OutSt c j` (departures from peer `j` on still to wait for).
-/
module

public import proofs.«01_k».proof.Proof.Geometry

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg) (K : CK → ℕ)

abbrev 𝒱₀ : Variants := Variants.none

/-- The rest of device `c`'s body `p` runs to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for so far. -/
def ow (c : Dev nD) (O : CellTallies nD τ sig Unit) : sProp 𝕄 := iprop(∃ W, owes (c : Thread nD τ) O W)

/-! ## The phases' states -/

/-- For peer `k`: the token of the unit on its barrier, and this device's receive slot for it. -/
def sigTok (c : Dev nD) (i : Fin 16) : sProp 𝕄 :=
  iprop(dutyTok ER (barCell (peer c i)) 0 c ∗ ∃ f, slotPts c (peer c i) f)
def SigSt (c : Dev nD) (k : ℕ) : sProp 𝕄 :=
  iprop(ow c (owB c k + owR c 0) ∗ bigSep (rangeSet 16 k 16) fun i : Fin 16 => sigTok c i)

/-- For peer `d`: the tokens of a copy to it and the slot it is to land in. -/
def sendTok (c d : Dev nD) : sProp 𝕄 :=
  if d = c then iprop(emp) else iprop(dutyTok ER (sendCell c d) 0 d ∗ dutyTok ER (recvCell d c) 0 c ∗ ∃ f, slotPts d c f)
/-- A copy under way: its credit; for the device itself its own rows, which stay. -/
def sent (c d : Dev nD) : sProp 𝕄 :=
  if d = c then rowPts c c (part m ρ c) else cred (tallyAt (sendCell c d) () N)
def SendSt (c : Dev nD) (j e : ℕ) : sProp 𝕄 :=
  iprop(ow c (owR c j) ∗ (bigSep (rangeSet 16 j 16) fun d : Fin 16 => sendTok c d)
    ∗ (bigSep (rangeSet 16 j e) fun d : Fin 16 => rowPts c d (part m ρ c))
    ∗ bigSep (rangeSet 16 0 j) fun d : Fin 16 => sent m ρ c d)

def recvDue (c : Dev nD) (i : Fin 16) : sProp 𝕄 :=
  iprop(cred (tallyAt (recvCell c (peer c i)) () N) ∗ atPos ER (recvCell c (peer c i)) 0 ∅ 0)
def recvDone (c : Dev nD) (i : Fin 16) : sProp 𝕄 :=
  iprop(slotPts c (peer c i) (landed m ρ c) ∗ semVal (recvCell c (peer c i)) 0)
def RecvSt (c : Dev nD) (k : ℕ) : sProp 𝕄 :=
  iprop(ow c 0 ∗ (bigSep (rangeSet 16 k 16) fun i : Fin 16 => recvDue c i)
    ∗ bigSep (rangeSet 16 1 k) fun i : Fin 16 => recvDone m ρ c i)

def outDue (c d : Dev nD) : sProp 𝕄 := iprop(sent m ρ c d ∗ atPos ER (sendCell c d) 0 ∅ 0)
def outDone (c d : Dev nD) : sProp 𝕄 := iprop(rowPts c d (part m ρ c) ∗ semVal (sendCell c d) 0)
def OutSt (c : Dev nD) (j : ℕ) : sProp 𝕄 :=
  iprop(ow c 0 ∗ (bigSep (rangeSet 16 j 16) fun d : Fin 16 => outDue m ρ c d)
    ∗ bigSep (rangeSet 16 0 j) fun d : Fin 16 => outDone m ρ c d)

omit [FloatOps F] in
/-- A family of resources changes one by one. -/
theorem each {I : Type} {s : Finset I} {Φ Ψ : I → sProp 𝕄} (h : ∀ i ∈ s, Φ i ⊢ Ψ i) : bigSep s Φ ⊢ bigSep s Ψ := bigSep_mono h

/-! ## Signals -/

variable {α : Type}

omit [FloatOps F] in
theorem signal_run (dev : Dev nD) (kont : PUnit → Prog (TpuEff nD τ sig (Elt F) Λ₀ .tc) α) :
    (semSignalWord dev barS 1#32 >>= kont) = .op (.semSignal (dev, .tc) barS (1#32 : BitVec 32).toInt) fun x => kont x := rfl
omit [FloatOps F] in
theorem wait_run (kont : PUnit → Prog (TpuEff nD τ sig (Elt F) Λ₀ .tc) α) :
    (semWaitWord barS 15#32 >>= kont) = .op (.semWait barS (15#32 : BitVec 32).toInt) fun x => kont x := rfl
omit [FloatOps F] in
theorem lift_run {β : Type} (e : TpuEff nD τ sig (Elt F) Λ₀ .tc β) (kont : β → Prog (TpuEff nD τ sig (Elt F) Λ₀ .tc) α) :
    (Prog.lift e >>= kont) = .op e fun x => kont x := rfl

/-- The signal to the `k`-th peer: its unit hands over this device's receive slot for that peer. -/
theorem step_signal (c : Dev nD) (k : Fin 16) (hk1 : 1 ≤ k.val) (dev : Dev nD) (hdev : dev = peer c k)
    {kont : PUnit → Prog (TpuEff nD τ sig (Elt F) Λ₀ .tc) α} {Q : α → sProp 𝕄} {Fr : sProp 𝕄}
    (hk : iprop(records m ρ K ∗ SigSt c (k.val + 1) ∗ Fr) ⊢ runs c (kont ⟨⟩) Q) :
    iprop(records m ρ K ∗ SigSt c k.val ∗ Fr) ⊢ runs c (semSignalWord dev barS 1#32 >>= kont) Q := by
  subst hdev
  rw [signal_run]
  unfold SigSt
  rw [bigSep_rangeSet_head k.isLt k.isLt]
  unfold ow
  iintro ⟨#HE, ⟨⟨%W, Ho⟩, Htok, Hrest⟩, HF⟩
  unfold sigTok
  icases Htok with ⟨Ht, Hslot⟩
  iapply (Rounds.wp_signal 𝒱₀ ER (Rd m ρ) (c : Thread nD τ) none (dst := ((peer c k : Dev nD) : Thread nD τ)) (κ := K (peer c k, none))
      (d := c) (by rw [duties_bar]; exact Finset.mem_erase.mpr ⟨(peer_ne c k hk1).symm, Finset.mem_univ _⟩)
      ((amount_bar m ρ (peer c k) 0 c).trans (by decide)) () (owB c (k.val + 1) + owR c 0) (by show owB c k.val + owR c 0 = owB c (k.val + 1) + owR c 0 + tallyAt (barCell (peer c k)) () 1; rw [owB_step c k]; abel))
    $$ [Ho Ht Hslot]
  · isplitr; · iapply (inv_bar m ρ K (peer c k)); iexact HE
    isplitl [Ho]; · iexact Ho
    isplitl [Ht]; · iexact Ht
    isplitl [Hslot]
    · rw [payload_bar]; unfold barPay
      isplitl [Hslot]; · iexact Hslot
      iapply (reached_recv m ρ K c (peer c k)); iexact HE
    · iapply (reached_bar m ρ K (peer c k)); iexact HE
  iintro Ho
  iapply hk
  isplitr; · iexact HE
  isplitr [HF]
  · unfold SigSt ow
    isplitl [Ho]; · iexists W; iexact Ho
    iexact Hrest
  iexact HF

/-! ## The barrier wait -/

/-- For peer `d`: the tokens of a copy to it. -/
def copyTok (c d : Dev nD) : sProp 𝕄 :=
  if d = c then iprop(emp) else iprop(dutyTok ER (sendCell c d) 0 d ∗ dutyTok ER (recvCell d c) 0 c)
/-- What the barrier wait needs. -/
def barDue (c : Dev nD) : sProp 𝕄 :=
  iprop(cred (tallyAt (barCell c) () 15) ∗ atPos ER (barCell c) 0 ∅ 0 ∗ levAts L lv ∗ bigSep Finset.univ fun d : Dev nD => copyTok c d)

/-- The slots the barrier's units brought, beside the copies' tokens: what the copies need. -/
theorem sendTok_intro (c : Dev nD) :
    iprop((bigSep Finset.univ fun d : Dev nD => copyTok c d) ∗ bigSep (Finset.univ.erase c) fun d : Dev nD => barPay (F := F) c d)
      ⊢ bigSep Finset.univ fun d : Dev nD => sendTok (F := F) c d := by
  rw [bigSep_univ_at (fun d : Dev nD => copyTok (F := F) c d) c, bigSep_univ_at (fun d : Dev nD => sendTok (F := F) c d) c]
  iintro ⟨⟨-, Ht⟩, Hp⟩
  isplitr
  · unfold sendTok; rw [if_pos rfl]; iempintro
  ihave H := (Entails.of_eq (bigSep_sep' (Finset.univ.erase c) (fun d : Dev nD => copyTok (F := F) c d) (fun d : Dev nD => barPay (F := F) c d)).symm) $$ [Ht Hp]
  · isplitl [Ht] <;> iassumption
  iapply (each (s := Finset.univ.erase c) (Φ := fun d : Dev nD => iprop(copyTok (F := F) c d ∗ barPay (F := F) c d)) (Ψ := fun d : Dev nD => sendTok (F := F) c d) fun d hd => by
    have hne : d ≠ c := Finset.ne_of_mem_erase hd
    unfold copyTok sendTok barPay
    rw [if_neg hne, if_neg hne]
    iintro ⟨⟨H1, H2⟩, Hs, -⟩
    isplitl [H1]; · iexact H1
    isplitl [H2]; · iexact H2
    iexact Hs)
  iexact H

/-- The wait for all fifteen units: every peer's slot for this device comes with them, and the barrier is over. -/
theorem step_barrier (c : Dev nD) {kont : PUnit → Prog (TpuEff nD τ sig (Elt F) Λ₀ .tc) α} {Q : α → sProp 𝕄} {C Fr : sProp 𝕄}
    (hk : iprop(records m ρ K ∗ SendSt m ρ c 0 0 ∗ C ∗ semVal (barCell c) 0 ∗ Fr) ⊢ runs c (kont ⟨⟩) Q) :
    iprop(records m ρ K ∗ SigSt c 16 ∗ barDue c ∗ C ∗ Fr) ⊢ runs c (semWaitWord barS 15#32 >>= kont) Q := by
  rw [wait_run]
  unfold SigSt ow barDue
  rw [owB_end, zero_add]
  iintro ⟨#HE, ⟨⟨%W, Ho⟩, -⟩, ⟨Hc, Hat, #Hlev, Htok⟩, HC, HF⟩
  iapply (Rounds.wp_wait_rest_token 𝒱₀ ER (Rd m ρ) (c : Thread nD τ) none (κ := K (c, none))
      (wpE_semWait_eq 𝒱₀ (c : Thread nD τ) none Set.univ) (Set.mem_univ _) () (O := owR c 0) (W := W) (R := 0) (m := 0) (T := ∅)
      (by rw [expect_bar]; decide)) $$ [Hc Ho Hat]
  · isplitr; · iapply (inv_bar m ρ K c); iexact HE
    isplitl [Hc]; · iexact Hc
    isplitl [Ho]; · iexact Ho
    isplitr; · iapply (mayWait_bar c); iexact Hlev
    iexact Hat
  iintro ⟨Ho, Hat, -, Hpay⟩
  imod (Rounds.cell_close ER (Rd m ρ) (Set.mem_univ (K (c, none))) (fun h => h) (R := 0 + 1) (duties_later m ρ (barCell c))) $$ [Hat] with Hz
  · isplitr; · iapply (inv_bar m ρ K c); iexact HE
    iexact Hat
  ihave Hp := (Entails.of_eq (rest_bar m ρ c)) $$ Hpay
  ihave Hs := (sendTok_intro c) $$ [Htok Hp]
  · isplitl [Htok] <;> iassumption
  iapply hk
  isplitr; · iexact HE
  isplitl [Ho Hs]
  · unfold SendSt ow
    isplitl [Ho]; · iexists _; iexact Ho
    rw [rangeSet_univ, bigSep_rangeSet_empty le_rfl, bigSep_rangeSet_empty le_rfl]
    isplitl [Hs]; · iexact Hs
    isplitr <;> iempintro
  isplitl [HC]; · iexact HC
  isplitl [Hz] <;> iassumption

/-! ## Loads and stores -/

/-- A load through any rectangle the held elements cover. -/
theorem step_load (c : Dev nD) {cs : CoreSpace} {s : Shape} {e : EltTy} {M : Memref sig .tc cs s e} {r : LoadRect s} {hl : M.view.LoadsAt r}
    {S : Finset (Idx (M.view.loc (c : Thread nD τ)))} {f : Buf (Elt F) (M.view.loc (c : Thread nD τ))} {v : r.shape.Idx → Elt F e}
    {kont : (r.shape.Idx → Elt F e) → Prog (TpuEff nD τ sig (Elt F) Λ₀ .tc) α} {Q : α → sProp 𝕄} {P Fr : sProp 𝕄}
    (hS : M.view.setOn r.set ⊆ S) (hv : M.view.readAt (Elt F) r f = v)
    (hP : P ⊢ iprop((M.view.loc (c : Thread nD τ) ↦[S]{fullShare} f) ∗ Fr))
    (hk : iprop((M.view.loc (c : Thread nD τ) ↦[S]{fullShare} f) ∗ Fr) ⊢ runs c (kont v) Q) :
    P ⊢ runs c (Prog.lift (.load M r hl) >>= kont) Q := by
  subst hv
  refine hP.trans ?_
  rw [lift_run]
  iintro ⟨H, HF⟩
  iapply (wp_load 𝒱₀ (c : Thread nD τ) none Set.univ (m := M) hS) $$ H
  iintro H
  iapply hk
  isplitl [H] <;> iassumption

/-- Storing the `k`-th 128 rows of the partial result: blocks `4 k … 4 k + 3` of 32 rows hold it. The load before it is
    of no effect. -/
theorem step_chunk (c : Dev nD) (k : Fin 4) (j : ℕ) (hj : j ≤ 4 * k.val) {o : Fin 2 → ℕ} (ho : o = ![128 * k.val, 0]) {h : ∀ a, o a + S128x512.size a ≤ S512x512.size a}
    {hl} {val : Vec F S128x512 .bf16} (hval : val = chunkV m ρ c k) {hx hm}
    {kont : PUnit → Prog (TpuEff nD τ sig (Elt F) Λ₀ .tc) α} {Q : α → sProp 𝕄} {Fr : sProp 𝕄}
    (hk : iprop(records m ρ K ∗ SendSt m ρ c j (4 * k.val + 4) ∗ Fr) ⊢ runs c (kont ⟨⟩) Q) :
    iprop(records m ρ K ∗ SendSt m ρ c j (4 * k.val) ∗ (∃ f, chunkPts c k f) ∗ Fr)
      ⊢ runs c (Prog.lift (.load partM (Rect.unit (s := S512x512) o S128x512.size h).toLoadRect hl) >>= fun _ =>
          Prog.lift (.store partM (Rect.unit (s := S512x512) o S128x512.size h) val Finset.univ hx hm) >>= kont) Q := by
  subst hval
  have hs : (partM.access (Rect.unit (s := S512x512) o S128x512.size h)).set = chunkSet k := (View.set_slice_whole _ _).trans (chunk_box k o ho h)
  rw [lift_run]
  unfold chunkPts
  iintro ⟨#HE, HS, ⟨%f, Hc⟩, HF⟩
  iapply (wp_load 𝒱₀ (c : Thread nD τ) none Set.univ (m := partM) (S := chunkSet k) (by
    rw [← hs, View.set_slice]; exact Finset.Subset.refl _)) $$ Hc
  iintro Hc
  rw [lift_run]
  iapply (wp_store 𝒱₀ (c : Thread nD τ) none Set.univ (m := partM) (r := Rect.unit (s := S512x512) o S128x512.size h) (Mk := Finset.univ) (S := chunkSet k) (by
    rw [View.setOn_univ, hs])) $$ Hc
  iintro Hc
  ihave Hc' := (Entails.of_eq ((pointsTo_congr (fun i hi => stored m ρ c k o ho h f i hi)).trans (chunk_split c k (part m ρ c)))) $$ Hc
  iapply hk
  isplitr; · iexact HE
  isplitr [HF]
  · unfold SendSt
    icases HS with ⟨Ho, Ht, Hr, Hd⟩
    rw [bigSep_rangeSet_split (a := j) (b := 4 * k.val) (d := 4 * k.val + 4) hj (by omega)]
    isplitl [Ho]; · iexact Ho
    isplitl [Ht]; · iexact Ht
    isplitl [Hr Hc']
    · isplitl [Hr] <;> iassumption
    iexact Hd
  iexact HF

/-! ## Copies -/

/-- 32 rows of the partial buffer, one slot of the receive buffer, as the kernel slices them. -/
abbrev rowAt (o : Fin 2 → ℕ) (h : ∀ a, o a + S32x512.size a ≤ S512x512.size a) : Memref sig .tc .vmem S32x512 .bf16 :=
  partM.slice (Rect.unit (s := S512x512) o S32x512.size h) (fun _ => rfl)
abbrev slotAt (o : Fin 3 → ℕ) (h : ∀ a, o a + S1x32x512.size a ≤ S16x32x512.size a) (hq : S1x32x512.Squeezes S32x512) : Memref sig .tc .vmem S32x512 .bf16 :=
  (recvM.slice (Rect.unit (s := S16x32x512) o S1x32x512.size h) (fun _ => rfl)).squeeze S32x512 hq

/-- The copy of rows `32 j …` to another device `j`, addressed to `n = j`. -/
theorem send_core (c j n : Dev nD) (hn : n = j) (hjc : j ≠ c) {q1 q2 : DmaSem sig} (hq1 : q1 = sendS j) (hq2 : q2 = recvS c)
    {o6 : Fin 2 → ℕ} (ho6 : o6 = ![32 * j.val, 0]) {h6 : ∀ a, o6 a + S32x512.size a ≤ S512x512.size a}
    {o7 : Fin 3 → ℕ} (ho7 : o7 = ![c.val, 0, 0]) {h7 : ∀ a, o7 a + S1x32x512.size a ≤ S16x32x512.size a} {hq : S1x32x512.Squeezes S32x512}
    {hsc : (slotAt o7 h7 hq).view.ref.isScScratch = false}
    {hsrc : (rowAt o6 h6).view.WordExact} {hdst : (slotAt o7 h7 hq).view.WordExact}
    {hsem : DmaTarget.Typed .vmem (.dma q2) (.remote (Dev.tc n : Thread nD τ) (slotAt o7 h7 hq) (.dma q1) hsc)}
    {kont : PUnit → Prog (TpuEff nD τ sig (Elt F) Λ₀ .tc) α} {Q : α → sProp 𝕄} (fd : Buf (Elt F) ((j : Thread nD τ).loc cc0_scratch1)) (W : Waits sig Unit) :
    iprop(cellInv ER (Rd m ρ) (K (c, sendIx j)) (sendCell c j) ∗ cellInv ER (Rd m ρ) (K (j, recvIx c)) (recvCell j c)
        ∗ rowPts c j (part m ρ c) ∗ slotPts j c fd ∗ owes (c : Thread nD τ) (owR c j.val) W
        ∗ dutyTok ER (sendCell c j) 0 j ∗ reached ER (sendCell c j) 0 ∗ dutyTok ER (recvCell j c) 0 c ∗ reached ER (recvCell j c) 0)
      ⊢ iprop(((cred (tallyAt (sendCell c j) () N) ∗ owes (c : Thread nD τ) (owR c (j.val + 1)) W) -∗ runs c (kont ⟨⟩) Q)
          -∗ runs c (.op (.enqueueDma (rowAt o6 h6) (.remote (Dev.tc n) (slotAt o7 h7 hq) (.dma q1) hsc) (.dma q2) hsrc hdst hsem) kont) Q) := by
  subst hn hq1 hq2
  have hA : (slotAt o7 h7 hq).view.amount (.dma (recvS c)) = N := rfl
  have hp1 : ((rowAt o6 h6).view.loc (c : Thread nD τ) ↦[(rowAt o6 h6).view.set]{fullShare} (part m ρ c)) ⊢ (Rd m ρ).payload (sendCell c n) 0 n := by
    rw [payload_send]; unfold sendPay rowPts; rw [row_view_set n o6 ho6]
  have hp2 : ((slotAt o7 h7 hq).view.loc (n : Thread nD τ) ↦[(slotAt o7 h7 hq).view.set]{fullShare} ((slotAt o7 h7 hq).view.write (Elt F) fd ((rowAt o6 h6).view.read (Elt F) (part m ρ c)) Finset.univ))
      ⊢ (Rd m ρ).payload (recvCell n c) 0 c := by
    rw [payload_recv]; unfold recvPay slotPts; rw [slot_view_set c o7 ho7]
    exact Entails.of_eq (pointsTo_congr fun i hi => landing m ρ c n o6 ho6 h6 _ o7 ho7 _ _ hq fd i hi)
  have e1 : rowPts c n (part m ρ c) = ((rowAt o6 h6).view.loc (c : Thread nD τ) ↦[(rowAt o6 h6).view.set]{fullShare} (part m ρ c) : sProp 𝕄) := by unfold rowPts; rw [row_view_set n o6 ho6]
  have e2 : slotPts n c fd = ((slotAt o7 h7 hq).view.loc (n : Thread nD τ) ↦[(slotAt o7 h7 hq).view.set]{fullShare} fd : sProp 𝕄) := by unfold slotPts; rw [slot_view_set c o7 ho7]
  rw [e1, e2]
  exact Rounds.wp_send_pointsTo 𝒱₀ ER (Rd m ρ) (c : Thread nD τ) none (κ₁ := K (c, sendIx n)) (κ₂ := K (n, recvIx c))
      (c' := (n : Thread nD τ)) (src := rowAt o6 h6) (dst := slotAt o7 h7 hq) (hsc := hsc) (sS := .dma (sendS n)) (sem := .dma (recvS c))
      (hsrc := hsrc) (hdst := hdst) (hsem := hsem) (k := kont) (q := fullShare) (fs := part m ρ c) (Q := Q)
      (r₁ := 0) (r₂ := 0) (d₁ := n) (d₂ := c) (fd := fd)
      (by rw [duties_send m ρ c n hjc]; exact Finset.mem_singleton_self _) (by rw [duties_recv m ρ n c (Ne.symm hjc)]; exact Finset.mem_singleton_self _)
      () () N hA (amount_send m ρ c n 0 n) (amount_recv m ρ n c 0 c) (O₀ := owR c n.val) (owR c (n.val + 1))
      (by rw [owR_step c n, if_neg hjc]) (W := W) hp1 hp2 (Es := Set.univ) (defs := defs₀ (F := F))

/-- The copy of rows `32 j …` to device `j`, which is not there when `j` is the device itself. -/
theorem step_send (c j : Dev nD) (e : ℕ) (he : j.val < e) {cond : BitVec 1} (hc : cond = 1#1 ↔ c ≠ j)
    {o6 : Fin 2 → ℕ} (ho6 : o6 = ![32 * j.val, 0]) {h6 : ∀ a, o6 a + S32x512.size a ≤ S512x512.size a}
    {o7 : Fin 3 → ℕ} (ho7 : o7 = ![c.val, 0, 0]) {h7 : cond = 1#1 → ∀ a, o7 a + S1x32x512.size a ≤ S16x32x512.size a} {hq : S1x32x512.Squeezes S32x512}
    {o8 : Fin 1 → ℕ} (ho8 : o8 = ![j.val]) {h8 : ∀ a, o8 a + S1.size a ≤ S16.size a} {hq8 : S1.Squeezes S_}
    {o9 : Fin 1 → ℕ} (ho9 : o9 = ![c.val]) {h9 : cond = 1#1 → ∀ a, o9 a + S1.size a ≤ S16.size a} {hq9 : S1.Squeezes S_}
    {dv : cond = 1#1 → Dev nD} (hdv : ∀ h, dv h = j)
    {hsc : ∀ h : cond = 1#1, (slotAt o7 (h7 h) hq).view.ref.isScScratch = false}
    {hsrc : (rowAt o6 h6).view.WordExact} {hdst : ∀ h : cond = 1#1, (slotAt o7 (h7 h) hq).view.WordExact}
    {hsem : ∀ h : cond = 1#1, DmaTarget.Typed .vmem (.dma ((cc0_scratch3.slice (Rect.unit (s := S16) o9 S1.size (h9 h))).squeeze S_ hq9).sem)
      (.remote (Dev.tc (dv h) : Thread nD τ) (slotAt o7 (h7 h) hq) (.dma ((cc0_scratch2.slice (Rect.unit (s := S16) o8 S1.size h8)).squeeze S_ hq8).sem) (hsc h))}
    {kont : Prog (TpuEff nD τ sig (Elt F) Λ₀ .tc) α} {Q : α → sProp 𝕄} {Fr : sProp 𝕄}
    (hk : iprop(records m ρ K ∗ SendSt m ρ c (j.val + 1) e ∗ Fr) ⊢ runs c kont Q) :
    iprop(records m ρ K ∗ SendSt m ρ c j.val e ∗ Fr)
      ⊢ runs c (if h : cond = 1#1 then
          (Prog.lift (.enqueueDma (rowAt o6 h6)
            (.remote (Dev.tc (dv h)) (slotAt o7 (h7 h) hq)
              (.dma ((cc0_scratch2.slice (Rect.unit (s := S16) o8 S1.size h8)).squeeze S_ hq8).sem) (hsc h))
            (.dma ((cc0_scratch3.slice (Rect.unit (s := S16) o9 S1.size (h9 h))).squeeze S_ hq9).sem) hsrc (hdst h) (hsem h)) >>= fun _ => kont)
        else kont) Q := by
  unfold SendSt
  rw [bigSep_rangeSet_head (lo := j.val) (hi := 16) j.isLt j.isLt, bigSep_rangeSet_head (lo := j.val) (hi := e) he j.isLt]
  have hlast : (bigSep (rangeSet 16 0 (j.val + 1)) fun d : Fin 16 => sent m ρ c d) = iprop(sent m ρ c j ∗ bigSep (rangeSet 16 0 j.val) fun d : Fin 16 => sent m ρ c d) :=
    bigSep_rangeSet_last (lo := 0) (hi := j.val + 1) (by omega) j.isLt
  have hfin : iprop(records m ρ K ∗ (ow c (owR c (j.val + 1)) ∗ (bigSep (rangeSet 16 (j.val + 1) 16) fun d : Fin 16 => sendTok c d)
      ∗ (bigSep (rangeSet 16 (j.val + 1) e) fun d : Fin 16 => rowPts c d (part m ρ c))
      ∗ (sent m ρ c j ∗ bigSep (rangeSet 16 0 j.val) fun d : Fin 16 => sent m ρ c d)) ∗ Fr) ⊢ runs c kont Q := by
    rw [← hlast]; unfold SendSt at hk; exact hk
  by_cases hjc : j = c
  · rw [dif_neg (fun h => hc.mp h hjc.symm)]
    iintro ⟨#HE, ⟨Ho, ⟨-, Ht⟩, ⟨Hr, Hrs⟩, Hd⟩, HF⟩
    iapply hfin
    isplitr; · iexact HE
    isplitr [HF]
    · rw [owR_step c j, if_pos hjc, add_zero]
      isplitl [Ho]; · iexact Ho
      isplitl [Ht]; · iexact Ht
      isplitl [Hrs]; · iexact Hrs
      isplitl [Hr]
      · unfold sent; rw [if_pos hjc, ← hjc]; iexact Hr
      iexact Hd
    iexact HF
  · have hcond : cond = 1#1 := hc.mpr (Ne.symm hjc)
    rw [dif_pos hcond, lift_run]
    unfold ow
    iintro ⟨#HE, ⟨⟨%W, Ho⟩, ⟨Htk, Ht⟩, ⟨Hr, Hrs⟩, Hd⟩, HF⟩
    ihave Htk := (Entails.of_eq (show sendTok (F := F) c j = iprop(dutyTok ER (sendCell c j) 0 j ∗ dutyTok ER (recvCell j c) 0 c ∗ ∃ f, slotPts j c f) by
      unfold sendTok; rw [if_neg hjc])) $$ Htk
    icases Htk with ⟨Hts, Htr, ⟨%fd, Hslot⟩⟩
    have H := send_core m ρ K c j (dv hcond) (hdv hcond) hjc (sem_send j o8 ho8 h8 hq8) (sem_recv c o9 ho9 (h9 hcond) hq9) ho6 (h6 := h6) ho7 (h7 := h7 hcond)
      (hq := hq) (hsc := hsc hcond) (hsrc := hsrc) (hdst := hdst hcond) (hsem := hsem hcond) (kont := fun _ => kont) (Q := Q) fd W
    iapply H
      $$ [Ho Hr Hslot Hts Htr]
    · isplitr; · iapply (inv_send m ρ K c j); iexact HE
      isplitr; · iapply (inv_recv m ρ K j c); iexact HE
      isplitl [Hr]; · iexact Hr
      isplitl [Hslot]; · iexact Hslot
      isplitl [Ho]; · iexact Ho
      isplitl [Hts]; · iexact Hts
      isplitr; · iapply (reached_send m ρ K c j); iexact HE
      isplitl [Htr]; · iexact Htr
      iapply (reached_recv m ρ K j c); iexact HE
    iintro ⟨Hcr, Ho⟩
    iapply hfin
    isplitr; · iexact HE
    isplitr [HF]
    · unfold ow
      isplitl [Ho]; · iexists W; iexact Ho
      isplitl [Ht]; · iexact Ht
      isplitl [Hrs]; · iexact Hrs
      isplitl [Hcr]; · unfold sent; rw [if_neg hjc]; iexact Hcr
      iexact Hd
    iexact HF

end Cert.Moe

end
-- ==== Proof.Waits.lean ====
/-
# The waits, the device's own slot, and the result

The rules of the body's second half: the wait for a landing, the wait for a copy to have left (absent for the device
itself), the store of the device's own rows into its own slot, and the store of the result.
-/
module

public import proofs.«01_k».proof.Proof.Steps

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg) (K : CK → ℕ)
variable {α : Type}

/-- A wait for one whole copy on a DMA semaphore of the exchange: what the round pays comes out, and the semaphore is over. -/
theorem wait_core (c : Dev nD) {q q' : DmaSem sig} (hq : q = q') {κ : ℕ} {P : sProp 𝕄}
    (hexp : (Rd m ρ).expect ((c : Thread nD τ), .dma q') 0 = N)
    (hrest : bigSep ((Rd (F := F) m ρ).duties ((c : Thread nD τ), .dma q') 0 \ ∅) (fun e => (Rd (F := F) m ρ).payload ((c : Thread nD τ), .dma q') 0 e) = P)
    {src dst : Memref sig .tc .vmem S32x512 .bf16} {h1 : src.view.WordExact} {h2 : dst.view.WordExact} (hN : dst.view.dmaCredit = N)
    {kont : PUnit → Prog (TpuEff nD τ sig (Elt F) Λ₀ .tc) α} {Q : α → sProp 𝕄} (W : Waits sig Unit) :
    iprop(cellInv ER (Rd m ρ) κ ((c : Thread nD τ), .dma q') ∗ cred (tallyAt ((c : Thread nD τ), .dma q') () N)
        ∗ owes (c : Thread nD τ) 0 W ∗ atPos ER ((c : Thread nD τ), .dma q') 0 ∅ 0)
      ⊢ iprop(((∃ W, owes (c : Thread nD τ) 0 W) ∗ P ∗ semVal ((c : Thread nD τ), .dma q') 0 -∗ runs c (kont ⟨⟩) Q)
          -∗ runs c (.op (.waitDma2 q src dst h1 h2) kont) Q) := by
  subst hq hrest
  iintro ⟨#HI, Hc, Ho, Hat⟩ Hk
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hexp, hN])) $$ [Hc Ho Hat]
  · isplitr; · iexact HI
    isplitl [Hc]; · rw [hN]; iexact Hc
    isplitl [Ho]; · iexact Ho
    isplitr; · rw [MayWait_zero]; iempintro
    iexact Hat
  iintro ⟨Ho, Hat, -, Hpay⟩
  imod (Rounds.cell_close ER (Rd m ρ) (Set.mem_univ κ) (fun h => h) (R := 0 + 1) (duties_later m ρ ((c : Thread nD τ), .dma q))) $$ [Hat] with Hz
  · isplitr; · iexact HI
    iexact Hat
  iapply Hk
  isplitl [Ho]; · iexists _; iexact Ho
  isplitl [Hpay] <;> iassumption

/-- The wait for the landing from the `k`-th peer. -/
theorem step_recv (c : Dev nD) (k : Fin 16) (hk1 : 1 ≤ k.val)
    {o9 : Fin 1 → ℕ} (ho9 : o9 = ![(peer c k).val]) {h9 : ∀ a, o9 a + S1.size a ≤ S16.size a} {hq9 : S1.Squeezes S_}
    {src : Memref sig .tc .vmem S32x512 .bf16}
    {o7 : Fin 3 → ℕ} {h7 : ∀ a, o7 a + S1x32x512.size a ≤ S16x32x512.size a} {hq : S1x32x512.Squeezes S32x512}
    {hsrc : src.view.WordExact} {hdst : (slotAt o7 h7 hq).view.WordExact}
    {kont : PUnit → Prog (TpuEff nD τ sig (Elt F) Λ₀ .tc) α} {Q : α → sProp 𝕄} {Fr : sProp 𝕄}
    (hk : iprop(records m ρ K ∗ RecvSt m ρ c (k.val + 1) ∗ Fr) ⊢ runs c (kont ⟨⟩) Q) :
    iprop(records m ρ K ∗ RecvSt m ρ c k.val ∗ Fr)
      ⊢ runs c (Prog.lift (.waitDma2 ((cc0_scratch3.slice (Rect.unit (s := S16) o9 S1.size h9)).squeeze S_ hq9).sem src (slotAt o7 h7 hq) hsrc hdst) >>= kont) Q := by
  have hne : peer c k ≠ c := peer_ne c k hk1
  have hlast : (bigSep (rangeSet 16 1 (k.val + 1)) fun i : Fin 16 => recvDone m ρ c i)
      = iprop(recvDone m ρ c k ∗ bigSep (rangeSet 16 1 k.val) fun i : Fin 16 => recvDone m ρ c i) :=
    bigSep_rangeSet_last (lo := 1) (hi := k.val + 1) (by omega) k.isLt
  have hfin : iprop(records m ρ K ∗ (ow c 0 ∗ (bigSep (rangeSet 16 (k.val + 1) 16) fun i : Fin 16 => recvDue (F := F) c i)
      ∗ (recvDone m ρ c k ∗ bigSep (rangeSet 16 1 k.val) fun i : Fin 16 => recvDone m ρ c i)) ∗ Fr) ⊢ runs c (kont ⟨⟩) Q := by
    rw [← hlast]; unfold RecvSt at hk; exact hk
  rw [lift_run]
  unfold RecvSt
  rw [bigSep_rangeSet_head (lo := k.val) (hi := 16) k.isLt k.isLt]
  iintro ⟨#HE, ⟨Ho, ⟨Hdue, Hrest⟩, Hdone⟩, HF⟩
  ihave Hd := (Entails.of_eq (show recvDue (F := F) c k = iprop(cred (tallyAt (recvCell c (peer c k)) () N) ∗ atPos ER (recvCell c (peer c k)) 0 ∅ 0) from rfl)) $$ Hdue
  icases Hd with ⟨Hc, Hat⟩
  ihave Ho' := (Entails.of_eq (show ow (F := F) c 0 = iprop(∃ W, owes (c : Thread nD τ) 0 W) from rfl)) $$ Ho
  icases Ho' with ⟨%W, Ho⟩
  have H := wait_core m ρ c (sem_recv (peer c k) o9 ho9 h9 hq9) (κ := K (c, recvIx (peer c k))) (expect_recv m ρ c (peer c k) hne) (rest_recv m ρ c (peer c k) hne)
    (src := src) (dst := slotAt o7 h7 hq) (h1 := hsrc) (h2 := hdst) rfl (kont := fun _ => kont ⟨⟩) (Q := Q) W
  iapply H $$ [Hc Ho Hat]
  · isplitr; · iapply (inv_recv m ρ K c (peer c k)); iexact HE
    isplitl [Hc]; · iexact Hc
    isplitl [Ho]; · iexact Ho
    iexact Hat
  iintro ⟨Ho, Hpay, Hz⟩
  iapply hfin
  isplitr; · iexact HE
  isplitr [HF]
  · isplitl [Ho]; · unfold ow; iexact Ho
    isplitl [Hrest]; · iexact Hrest
    isplitr [Hdone]
    · unfold recvDone
      isplitl [Hpay]; · unfold recvPay; iexact Hpay
      iexact Hz
    iexact Hdone
  iexact HF

/-- The wait for the copy to device `j` to have left; the device's own semaphore was never used. -/
theorem step_out (c j : Dev nD) {cond : BitVec 1} (hc : cond = 1#1 ↔ c ≠ j)
    {o8 : Fin 1 → ℕ} (ho8 : o8 = ![j.val]) {h8 : ∀ a, o8 a + S1.size a ≤ S16.size a} {hq8 : S1.Squeezes S_}
    {o6 : Fin 2 → ℕ} {h6 : ∀ a, o6 a + S32x512.size a ≤ S512x512.size a}
    {src : cond = 1#1 → Memref sig .tc .vmem S32x512 .bf16}
    {hsrc : ∀ h : cond = 1#1, (src h).view.WordExact} {hdst : (rowAt o6 h6).view.WordExact}
    {kont : Prog (TpuEff nD τ sig (Elt F) Λ₀ .tc) α} {Q : α → sProp 𝕄} {Fr : sProp 𝕄}
    (hk : iprop(records m ρ K ∗ OutSt m ρ c (j.val + 1) ∗ Fr) ⊢ runs c kont Q) :
    iprop(records m ρ K ∗ OutSt m ρ c j.val ∗ Fr)
      ⊢ runs c (if h : cond = 1#1 then
          (Prog.lift (.waitDma2 ((cc0_scratch2.slice (Rect.unit (s := S16) o8 S1.size h8)).squeeze S_ hq8).sem (src h) (rowAt o6 h6) (hsrc h) hdst) >>= fun _ => kont)
        else kont) Q := by
  have hlast : (bigSep (rangeSet 16 0 (j.val + 1)) fun d : Fin 16 => outDone m ρ c d)
      = iprop(outDone m ρ c j ∗ bigSep (rangeSet 16 0 j.val) fun d : Fin 16 => outDone m ρ c d) :=
    bigSep_rangeSet_last (lo := 0) (hi := j.val + 1) (by omega) j.isLt
  have hfin : iprop(records m ρ K ∗ (ow c 0 ∗ (bigSep (rangeSet 16 (j.val + 1) 16) fun d : Fin 16 => outDue m ρ c d)
      ∗ (outDone m ρ c j ∗ bigSep (rangeSet 16 0 j.val) fun d : Fin 16 => outDone m ρ c d)) ∗ Fr) ⊢ runs c kont Q := by
    rw [← hlast]; unfold OutSt at hk; exact hk
  unfold OutSt
  rw [bigSep_rangeSet_head (lo := j.val) (hi := 16) j.isLt j.isLt]
  by_cases hjc : j = c
  · rw [dif_neg (fun h => hc.mp h hjc.symm)]
    iintro ⟨#HE, ⟨Ho, ⟨Hdue, Hrest⟩, Hdone⟩, HF⟩
    ihave Hd := (Entails.of_eq (show outDue m ρ c j = iprop(rowPts c j (part m ρ c) ∗ atPos ER (sendCell c j) 0 ∅ 0) by
      unfold outDue sent; rw [if_pos hjc, hjc])) $$ Hdue
    icases Hd with ⟨Hr, Hat⟩
    have hself : ∀ r, 0 ≤ r → (Rd (F := F) m ρ).duties (sendCell c j) r = ∅ := by rw [hjc]; exact duties_send_self m ρ c
    imod (Rounds.cell_close ER (Rd m ρ) (Set.mem_univ (K (c, sendIx j))) (fun h => h) (R := 0) hself) $$ [Hat] with Hz
    · isplitr; · iapply (inv_send m ρ K c j); iexact HE
      iexact Hat
    iapply hfin
    isplitr; · iexact HE
    isplitr [HF]
    · isplitl [Ho]; · iexact Ho
      isplitl [Hrest]; · iexact Hrest
      isplitr [Hdone]
      · unfold outDone
        isplitl [Hr] <;> iassumption
      iexact Hdone
    iexact HF
  · have hcond : cond = 1#1 := hc.mpr (Ne.symm hjc)
    rw [dif_pos hcond, lift_run]
    iintro ⟨#HE, ⟨Ho, ⟨Hdue, Hrest⟩, Hdone⟩, HF⟩
    ihave Hd := (Entails.of_eq (show outDue m ρ c j = iprop(cred (tallyAt (sendCell c j) () N) ∗ atPos ER (sendCell c j) 0 ∅ 0) by
      unfold outDue sent; rw [if_neg hjc])) $$ Hdue
    icases Hd with ⟨Hc, Hat⟩
    ihave Ho' := (Entails.of_eq (show ow (F := F) c 0 = iprop(∃ W, owes (c : Thread nD τ) 0 W) from rfl)) $$ Ho
    icases Ho' with ⟨%W, Ho⟩
    have H := wait_core m ρ c (sem_send j o8 ho8 h8 hq8) (κ := K (c, sendIx j)) (expect_send m ρ c j hjc) (rest_send m ρ c j hjc)
      (src := src hcond) (dst := rowAt o6 h6) (h1 := hsrc hcond) (h2 := hdst) rfl (kont := fun _ => kont) (Q := Q) W
    iapply H $$ [Hc Ho Hat]
    · isplitr; · iapply (inv_send m ρ K c j); iexact HE
      isplitl [Hc]; · iexact Hc
      isplitl [Ho]; · iexact Ho
      iexact Hat
    iintro ⟨Ho, Hpay, Hz⟩
    iapply hfin
    isplitr; · iexact HE
    isplitr [HF]
    · isplitl [Ho]; · unfold ow; iexact Ho
      isplitl [Hrest]; · iexact Hrest
      isplitr [Hdone]
      · unfold outDone
        isplitl [Hpay]; · unfold sendPay; iexact Hpay
        iexact Hz
      iexact Hdone
    iexact HF

/-- Storing the device's own rows into its own slot. The load before it is of no effect. -/
theorem step_own (c : Dev nD) {o : Fin 3 → ℕ} (ho : o = ![c.val, 0, 0]) {h : ∀ a, o a + S1x32x512.size a ≤ S16x32x512.size a}
    {hl} {val : Vec F S1x32x512 .bf16} (hval : val = k0_pay13 (myRows m ρ c)) {hx hm}
    {kont : PUnit → Prog (TpuEff nD τ sig (Elt F) Λ₀ .tc) α} {Q : α → sProp 𝕄} {P Fr : sProp 𝕄}
    (hP : P ⊢ iprop((∃ f, slotPts c c f) ∗ Fr))
    (hk : iprop(slotPts c c (landed m ρ c) ∗ Fr) ⊢ runs c (kont ⟨⟩) Q) :
    P ⊢ runs c (Prog.lift (.load recvM (Rect.unit (s := S16x32x512) o S1x32x512.size h).toLoadRect hl) >>= fun _ =>
          Prog.lift (.store recvM (Rect.unit (s := S16x32x512) o S1x32x512.size h) val Finset.univ hx hm) >>= kont) Q := by
  subst hval
  have hs : (recvM.access (Rect.unit (s := S16x32x512) o S1x32x512.size h)).set = slotSet c := (View.set_slice_whole _ _).trans (slot_box c o ho h)
  refine hP.trans ?_
  have e0 : (iprop(∃ f, slotPts c c f) : sProp 𝕄) = iprop(∃ f : Buf (Elt F) (recvM.view.loc (c : Thread nD τ)), (recvM.view.loc (c : Thread nD τ)) ↦[slotSet c]{fullShare} f) := rfl
  rw [lift_run, e0]
  iintro ⟨⟨%f, Hc⟩, HF⟩
  iapply (wp_load 𝒱₀ (c : Thread nD τ) none Set.univ (m := recvM) (S := slotSet c) (by
    rw [← hs, View.set_slice]; exact Finset.Subset.refl _)) $$ Hc
  iintro Hc
  rw [lift_run]
  iapply (wp_store 𝒱₀ (c : Thread nD τ) none Set.univ (m := recvM) (r := Rect.unit (s := S16x32x512) o S1x32x512.size h) (w := k0_pay13 (myRows m ρ c)) (hx := hx) (hm := hm) (f := f) (Mk := Finset.univ) (S := slotSet c) (by
    rw [View.setOn_univ, hs])) $$ Hc
  iintro Hc
  have e1 : (((recvM.view.loc (c : Thread nD τ)) ↦[slotSet c]{fullShare}
        ((recvM.access (Rect.unit (s := S16x32x512) o S1x32x512.size h)).write (Elt F) f (k0_pay13 (myRows m ρ c)) Finset.univ)) : sProp 𝕄)
      = slotPts c c (landed m ρ c) :=
    pointsTo_congr (fun i hi => own_slot m ρ c o ho h f i hi)
  ihave Hc' := (Entails.of_eq e1) $$ Hc
  iapply hk
  isplitl [Hc'] <;> iassumption

omit [FloatOps F] in
theorem zero2 : (![0, 0] : Fin 2 → Nat) = fun _ => 0 := funext fun a => by fin_cases a <;> rfl
omit [FloatOps F] in
/-- A store of the whole result buffer leaves what was stored. -/
theorem write_out (h' : ∀ a, (![0, 0] : Fin 2 → Nat) a + S32x512.size a ≤ S32x512.size a) (f w : (cc0_stg5_0 : Ref sig .tc).ty.Contents (Elt F)) :
    ((outM : Memref sig .tc .vmem S32x512 .f32).access (Rect.unit (s := S32x512) ![0, 0] S32x512.size h') : View sig .tc _ _ _).write (Elt F) f w Finset.univ = w :=
  Memref.write_access_unit_zero_univ (Elt F) cc0_stg5_0 zero2 h' f w

/-- Storing the result. The load before it is of no effect. -/
theorem step_result (c : Dev nD) {h h'} {hl} {val : Vec F S32x512 .f32} {hx hm}
    {kont : PUnit → Prog (TpuEff nD τ sig (Elt F) Λ₀ .tc) α} {Q : α → sProp 𝕄} {P Fr : sProp 𝕄}
    (hP : P ⊢ iprop((∃ f, (outM.view.loc (c : Thread nD τ)) ↦{fullShare} f) ∗ Fr))
    (hk : iprop(((outM.view.loc (c : Thread nD τ)) ↦{fullShare} (val : Buf (Elt F) (outM.view.loc (c : Thread nD τ)))) ∗ Fr) ⊢ runs c (kont ⟨⟩) Q) :
    P ⊢ runs c (Prog.lift (.load outM (Rect.unit (s := S32x512) ![0, 0] S32x512.size h).toLoadRect hl) >>= fun _ =>
          Prog.lift (.store outM (Rect.unit (s := S32x512) ![0, 0] S32x512.size h') val Finset.univ hx hm) >>= kont) Q := by
  refine hP.trans ?_
  rw [lift_run]
  iintro ⟨⟨%f, Hc⟩, HF⟩
  iapply (wp_load 𝒱₀ (c : Thread nD τ) none Set.univ (m := outM) (S := Finset.univ) (Finset.subset_univ _)) $$ Hc
  iintro Hc
  rw [lift_run]
  iapply (wp_store 𝒱₀ (c : Thread nD τ) none Set.univ (m := outM) (r := Rect.unit (s := S32x512) ![0, 0] S32x512.size h') (w := val) (hx := hx) (hm := hm) (f := f) (Mk := Finset.univ) (S := Finset.univ) (Finset.subset_univ _)) $$ Hc
  iintro Hc
  have e1 : (((outM.view.loc (c : Thread nD τ)) ↦{fullShare} ((outM.access (Rect.unit (s := S32x512) ![0, 0] S32x512.size h')).write (Elt F) f val Finset.univ)) : sProp 𝕄)
      = ((outM.view.loc (c : Thread nD τ)) ↦{fullShare} (val : Buf (Elt F) (outM.view.loc (c : Thread nD τ)))) := by
    rw [write_out h' f val]
  ihave Hc' := (Entails.of_eq e1) $$ Hc
  iapply hk
  isplitl [Hc'] <;> iassumption

end Cert.Moe

end
-- ==== Proof.PartsA.lean ====
/-
# The body, first part: the signals and the barrier

Parts 1 to 7 of the body: every other device is told that this one's receive buffer is there, the fifteen units of the
others are waited for, and the router's inputs are loaded.
-/
module

public import proofs.«01_k».proof.Proof.Waits

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg) (K : CK → ℕ)

/-! ## Composition -/

/-- A part of the body, then the rest. -/
theorem cut {α β : Type} (c : Dev nD) {p : Prog (TpuEff nD τ sig (Elt F) Λ₀ .tc) α} {kont : α → Prog (TpuEff nD τ sig (Elt F) Λ₀ .tc) β}
    {Q : β → sProp 𝕄} {P : sProp 𝕄} (h : P ⊢ runs c p fun a => runs c (kont a) Q) : P ⊢ runs c (p >>= kont) Q :=
  h.trans (Entails.of_eq (wp_bind _ _ _ p kont Q).symm)

/-- The end of a part. -/
theorem done {α : Type} (c : Dev nD) {r : α} {Q : α → sProp 𝕄} {P : sProp 𝕄} (h : P ⊢ Q r) : P ⊢ runs c (pure r) Q :=
  h.trans fupd_intro

/-! ## The staged inputs -/

abbrev xPts (c : Dev nD) : sProp 𝕄 := (xM.view.loc (c : Thread nD τ)) ↦{fullShare} (xV m ρ c)
abbrev wPts (c : Dev nD) : sProp 𝕄 := (wM.view.loc (c : Thread nD τ)) ↦{fullShare} (wV m ρ c)
abbrev ePts (c : Dev nD) : sProp 𝕄 := (eM.view.loc (c : Thread nD τ)) ↦{fullShare} (eV m ρ c)
abbrev expPts (c : Dev nD) : sProp 𝕄 := (expM.view.loc (c : Thread nD τ)) ↦{fullShare} (expV m ρ c)
abbrev shPts (c : Dev nD) : sProp 𝕄 := (shM.view.loc (c : Thread nD τ)) ↦{fullShare} (shV m ρ c)
/-- All five of them, as staged. -/
def ins (c : Dev nD) : sProp 𝕄 := iprop(xPts m ρ c ∗ wPts m ρ c ∗ ePts m ρ c ∗ expPts m ρ c ∗ shPts m ρ c)

theorem zero3 : (![0, 0, 0] : Fin 3 → Nat) = fun _ => 0 := funext fun a => by fin_cases a <;> rfl

theorem load_x {S R : sProp 𝕄} (c : Dev nD) {α : Type} {h} {hl} {kont : Vec F S512x256 .bf16 → Prog (TpuEff nD τ sig (Elt F) Λ₀ .tc) α} {Q : α → sProp 𝕄}
    (hk : iprop(R ∗ S ∗ ins m ρ c) ⊢ runs c (kont (xV m ρ c)) Q) :
    iprop(R ∗ S ∗ ins m ρ c) ⊢ runs c (Prog.lift (.load xM (Rect.unit (s := S512x256) ![0, 0] S512x256.size h).toLoadRect hl) >>= kont) Q := by
  refine step_load c (M := xM) (S := Finset.univ) (f := xV m ρ c) (Fr := iprop(R ∗ S ∗ wPts m ρ c ∗ ePts m ρ c ∗ expPts m ρ c ∗ shPts m ρ c)) (Finset.subset_univ _)
    (Memref.readAt_unit_zero (Elt F) cc0_stg0_0 zero2 h _) ?_ (BIBase.Entails.trans ?_ hk)
  · unfold ins; iintro ⟨HR, HS, H1, H2⟩
    isplitl [H1]; · iexact H1
    isplitl [HR]; · iexact HR
    isplitl [HS] <;> iassumption
  · unfold ins; iintro ⟨H1, HR, HS, H2⟩
    isplitl [HR]; · iexact HR
    isplitl [HS]; · iexact HS
    isplitl [H1] <;> iassumption
theorem load_w {S R : sProp 𝕄} (c : Dev nD) {α : Type} {h} {hl} {kont : Vec F S256x64 .bf16 → Prog (TpuEff nD τ sig (Elt F) Λ₀ .tc) α} {Q : α → sProp 𝕄}
    (hk : iprop(R ∗ S ∗ ins m ρ c) ⊢ runs c (kont (wV m ρ c)) Q) :
    iprop(R ∗ S ∗ ins m ρ c) ⊢ runs c (Prog.lift (.load wM (Rect.unit (s := S256x64) ![0, 0] S256x64.size h).toLoadRect hl) >>= kont) Q := by
  refine step_load c (M := wM) (S := Finset.univ) (f := wV m ρ c) (Fr := iprop(R ∗ S ∗ xPts m ρ c ∗ ePts m ρ c ∗ expPts m ρ c ∗ shPts m ρ c)) (Finset.subset_univ _)
    (Memref.readAt_unit_zero (Elt F) cc0_stg1_0 zero2 h _) ?_ (BIBase.Entails.trans ?_ hk)
  · unfold ins; iintro ⟨HR, HS, H1, H2, H3⟩
    isplitl [H2]; · iexact H2
    isplitl [HR]; · iexact HR
    isplitl [HS]; · iexact HS
    isplitl [H1] <;> iassumption
  · unfold ins; iintro ⟨H2, HR, HS, H1, H3⟩
    isplitl [HR]; · iexact HR
    isplitl [HS]; · iexact HS
    isplitl [H1]; · iexact H1
    isplitl [H2] <;> iassumption
theorem load_e {S R : sProp 𝕄} (c : Dev nD) {α : Type} {h} {hl} {kont : Vec F S512x1 .i32 → Prog (TpuEff nD τ sig (Elt F) Λ₀ .tc) α} {Q : α → sProp 𝕄}
    (hk : iprop(R ∗ S ∗ ins m ρ c) ⊢ runs c (kont (eV m ρ c)) Q) :
    iprop(R ∗ S ∗ ins m ρ c) ⊢ runs c (Prog.lift (.load eM (Rect.unit (s := S512x1) ![0, 0] S512x1.size h).toLoadRect hl) >>= kont) Q := by
  refine step_load c (M := eM) (S := Finset.univ) (f := eV m ρ c) (Fr := iprop(R ∗ S ∗ xPts m ρ c ∗ wPts m ρ c ∗ expPts m ρ c ∗ shPts m ρ c)) (Finset.subset_univ _)
    (Memref.readAt_unit_zero (Elt F) cc0_stg2_0 zero2 h _) ?_ (BIBase.Entails.trans ?_ hk)
  · unfold ins; iintro ⟨HR, HS, H1, H2, H3, H4⟩
    isplitl [H3]; · iexact H3
    isplitl [HR]; · iexact HR
    isplitl [HS]; · iexact HS
    isplitl [H1]; · iexact H1
    isplitl [H2] <;> iassumption
  · unfold ins; iintro ⟨H3, HR, HS, H1, H2, H4⟩
    isplitl [HR]; · iexact HR
    isplitl [HS]; · iexact HS
    isplitl [H1]; · iexact H1
    isplitl [H2]; · iexact H2
    isplitl [H3] <;> iassumption
theorem load_exp {S R : sProp 𝕄} (c : Dev nD) {α : Type} {h} {hl} {kont : Vec F S4x256x512 .bf16 → Prog (TpuEff nD τ sig (Elt F) Λ₀ .tc) α} {Q : α → sProp 𝕄}
    (hk : iprop(R ∗ S ∗ ins m ρ c) ⊢ runs c (kont (expV m ρ c)) Q) :
    iprop(R ∗ S ∗ ins m ρ c) ⊢ runs c (Prog.lift (.load expM (Rect.unit (s := S4x256x512) ![0, 0, 0] S4x256x512.size h).toLoadRect hl) >>= kont) Q := by
  refine step_load c (M := expM) (S := Finset.univ) (f := expV m ρ c) (Fr := iprop(R ∗ S ∗ xPts m ρ c ∗ wPts m ρ c ∗ ePts m ρ c ∗ shPts m ρ c)) (Finset.subset_univ _)
    (Memref.readAt_unit_zero (Elt F) cc0_stg3_0 zero3 h _) ?_ (BIBase.Entails.trans ?_ hk)
  · unfold ins; iintro ⟨HR, HS, H1, H2, H3, H4, H5⟩
    isplitl [H4]; · iexact H4
    isplitl [HR]; · iexact HR
    isplitl [HS]; · iexact HS
    isplitl [H1]; · iexact H1
    isplitl [H2]; · iexact H2
    isplitl [H3] <;> iassumption
  · unfold ins; iintro ⟨H4, HR, HS, H1, H2, H3, H5⟩
    isplitl [HR]; · iexact HR
    isplitl [HS]; · iexact HS
    isplitl [H1]; · iexact H1
    isplitl [H2]; · iexact H2
    isplitl [H3]; · iexact H3
    isplitl [H4] <;> iassumption
theorem load_sh {S R : sProp 𝕄} (c : Dev nD) {α : Type} {h} {hl} {kont : Vec F S256x512 .bf16 → Prog (TpuEff nD τ sig (Elt F) Λ₀ .tc) α} {Q : α → sProp 𝕄}
    (hk : iprop(R ∗ S ∗ ins m ρ c) ⊢ runs c (kont (shV m ρ c)) Q) :
    iprop(R ∗ S ∗ ins m ρ c) ⊢ runs c (Prog.lift (.load shM (Rect.unit (s := S256x512) ![0, 0] S256x512.size h).toLoadRect hl) >>= kont) Q := by
  refine step_load c (M := shM) (S := Finset.univ) (f := shV m ρ c) (Fr := iprop(R ∗ S ∗ xPts m ρ c ∗ wPts m ρ c ∗ ePts m ρ c ∗ expPts m ρ c)) (Finset.subset_univ _)
    (Memref.readAt_unit_zero (Elt F) cc0_stg4_0 zero2 h _) ?_ (BIBase.Entails.trans ?_ hk)
  · unfold ins; iintro ⟨HR, HS, H1, H2, H3, H4, H5⟩
    isplitl [H5]; · iexact H5
    isplitl [HR]; · iexact HR
    isplitl [HS]; · iexact HS
    isplitl [H1]; · iexact H1
    isplitl [H2]; · iexact H2
    isplitl [H3] <;> iassumption
  · unfold ins; iintro ⟨H5, HR, HS, H1, H2, H3, H4⟩
    isplitl [HR]; · iexact HR
    isplitl [HS]; · iexact HS
    isplitl [H1]; · iexact H1
    isplitl [H2]; · iexact H2
    isplitl [H3]; · iexact H3
    isplitl [H4] <;> iassumption
/-- The device's own 32 rows of the activations. -/
theorem load_xrows {S R : sProp 𝕄} (c : Dev nD) {α : Type} {o : Fin 2 → ℕ} (ho : o = ![32 * c.val, 0]) {h : ∀ a, o a + S32x256.size a ≤ S512x256.size a} {hl}
    {kont : Vec F S32x256 .bf16 → Prog (TpuEff nD τ sig (Elt F) Λ₀ .tc) α} {Q : α → sProp 𝕄}
    (hk : iprop(R ∗ S ∗ ins m ρ c) ⊢ runs c (kont (xRows m ρ c)) Q) :
    iprop(R ∗ S ∗ ins m ρ c) ⊢ runs c (Prog.lift (.load xM (Rect.unit (s := S512x256) o S32x256.size h).toLoadRect hl) >>= kont) Q := by
  refine step_load c (M := xM) (S := Finset.univ) (f := xV m ρ c) (Fr := iprop(R ∗ S ∗ wPts m ρ c ∗ ePts m ρ c ∗ expPts m ρ c ∗ shPts m ρ c)) (Finset.subset_univ _)
    (read_xRows m ρ c o ho h) ?_ (BIBase.Entails.trans ?_ hk)
  · unfold ins; iintro ⟨HR, HS, H1, H2⟩
    isplitl [H1]; · iexact H1
    isplitl [HR]; · iexact HR
    isplitl [HS] <;> iassumption
  · unfold ins; iintro ⟨H1, HR, HS, H2⟩
    isplitl [HR]; · iexact HR
    isplitl [HS]; · iexact HS
    isplitl [H1] <;> iassumption

/-- Asking for the device's number. -/
theorem step_device {α : Type} (c : Dev nD) {kont : Dev nD → Prog (TpuEff nD τ sig (Elt F) Λ₀ .tc) α} {Q : α → sProp 𝕄} {P : sProp 𝕄}
    (h : P ⊢ runs c (kont c) Q) : P ⊢ runs c (Prog.lift .deviceId >>= kont) Q := by
  rw [lift_run]
  exact h.trans (Entails.of_eq (wp_deviceId 𝒱₀ (c : Thread nD τ) none Set.univ).symm)

/-! ## The signals, the barrier, the router's inputs -/

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 8 := by revert c; decide +kernel
theorem dev9_eq (c : Dev nD) : (⟨k0_dev9 c, k0_dev9_lt c⟩ : Dev nD) = peer c 9 := by revert c; decide +kernel
theorem dev10_eq (c : Dev nD) : (⟨k0_dev10 c, k0_dev10_lt c⟩ : Dev nD) = peer c 10 := by revert c; decide +kernel
theorem dev11_eq (c : Dev nD) : (⟨k0_dev11 c, k0_dev11_lt c⟩ : Dev nD) = peer c 11 := by revert c; decide +kernel
theorem dev12_eq (c : Dev nD) : (⟨k0_dev12 c, k0_dev12_lt c⟩ : Dev nD) = peer c 12 := by revert c; decide +kernel
theorem dev13_eq (c : Dev nD) : (⟨k0_dev13 c, k0_dev13_lt c⟩ : Dev nD) = peer c 13 := by revert c; decide +kernel
theorem dev14_eq (c : Dev nD) : (⟨k0_dev14 c, k0_dev14_lt c⟩ : Dev nD) = peer c 14 := by revert c; decide +kernel
theorem dev15_eq (c : Dev nD) : (⟨k0_dev15 c, k0_dev15_lt c⟩ : Dev nD) = peer c 15 := by revert c; decide +kernel

/-- Part 1: the device's number, the first two signals. -/
theorem run_part1 (c : Dev nD) {Q : _ → sProp 𝕄} {Fr : sProp 𝕄}
    (hk : ∀ v30 c16 v31, iprop(records m ρ K ∗ SigSt c 3 ∗ Fr) ⊢ Q ⟨c, me c, (SemArray.scalar (sig.barrier 0 rfl) : Sems sig S_), v30, c16, v31⟩) :
    iprop(records m ρ K ∗ SigSt c 1 ∗ Fr) ⊢ runs c (k0_part1 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3) Q := by
  rw [k0_part1_eq_skeleton]; unfold k0_part1_skel
  refine step_device c ?_
  refine step_signal m ρ K c 1 (by decide) _ (dev1_eq c) ?_
  refine step_signal m ρ K c 2 (by decide) _ (dev2_eq c) ?_
  exact done c (hk _ _ _)
/-- Part 2: signals 3 to 4. -/
theorem run_part2 (c : Dev nD) (w2 : BitVec 32) (v30 : BitVec 32) (c16 : BitVec 32) (v31 : BitVec 1) {Q : _ → sProp 𝕄} {Fr : sProp 𝕄}
    (hk : ∀ r59 r64 r65, iprop(records m ρ K ∗ SigSt c 5 ∗ Fr) ⊢ Q ⟨r59, r64, r65⟩) :
    iprop(records m ρ K ∗ SigSt c 3 ∗ Fr) ⊢ runs c (k0_part2 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 (SemArray.scalar (sig.barrier 0 rfl) : Sems sig S_) v30 c16 v31) Q := by
  rw [k0_part2_eq_skeleton]; unfold k0_part2_skel
  refine step_signal m ρ K c 3 (by decide) _ (dev3_eq c) ?_
  refine step_signal m ρ K c 4 (by decide) _ (dev4_eq c) ?_
  exact done c (hk _ _ _)
/-- Part 3: signals 5 to 7. -/
theorem run_part3 (c : Dev nD) (w2 : BitVec 32) (v59 : BitVec 32) (v64 : BitVec 1) (v65 : BitVec 32) {Q : _ → sProp 𝕄} {Fr : sProp 𝕄}
    (hk : ∀ r95 r63 r96, iprop(records m ρ K ∗ SigSt c 8 ∗ Fr) ⊢ Q ⟨r95, r63, r96⟩) :
    iprop(records m ρ K ∗ SigSt c 5 ∗ Fr) ⊢ runs c (k0_part3 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 (SemArray.scalar (sig.barrier 0 rfl) : Sems sig S_) v59 v64 v65) Q := by
  rw [k0_part3_eq_skeleton]; unfold k0_part3_skel
  refine step_signal m ρ K c 5 (by decide) _ (dev5_eq c) ?_
  refine step_signal m ρ K c 6 (by decide) _ (dev6_eq c) ?_
  refine step_signal m ρ K c 7 (by decide) _ (dev7_eq c) ?_
  exact done c (hk _ _ _)
/-- Part 4: signals 8 to 9. -/
theorem run_part4 (c : Dev nD) (w2 : BitVec 32) (v95 : BitVec 32) (v63 : BitVec 32) (v96 : BitVec 1) {Q : _ → sProp 𝕄} {Fr : sProp 𝕄}
    (hk : ∀ r59 r64 r65, iprop(records m ρ K ∗ SigSt c 10 ∗ Fr) ⊢ Q ⟨r59, r64, r65⟩) :
    iprop(records m ρ K ∗ SigSt c 8 ∗ Fr) ⊢ runs c (k0_part4 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 (SemArray.scalar (sig.barrier 0 rfl) : Sems sig S_) v95 v63 v96) Q := by
  rw [k0_part4_eq_skeleton]; unfold k0_part4_skel
  refine step_signal m ρ K c 8 (by decide) _ (dev8_eq c) ?_
  refine step_signal m ρ K c 9 (by decide) _ (dev9_eq c) ?_
  exact done c (hk _ _ _)
/-- Part 5: signals 10 to 12. -/
theorem run_part5 (c : Dev nD) (w2 : BitVec 32) (v59 : BitVec 32) (v64 : BitVec 1) (v65 : BitVec 32) {Q : _ → sProp 𝕄} {Fr : sProp 𝕄}
    (hk : ∀ r95 r63 r96, iprop(records m ρ K ∗ SigSt c 13 ∗ Fr) ⊢ Q ⟨r95, r63, r96⟩) :
    iprop(records m ρ K ∗ SigSt c 10 ∗ Fr) ⊢ runs c (k0_part5 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 (SemArray.scalar (sig.barrier 0 rfl) : Sems sig S_) v59 v64 v65) Q := by
  rw [k0_part5_eq_skeleton]; unfold k0_part5_skel
  refine step_signal m ρ K c 10 (by decide) _ (dev10_eq c) ?_
  refine step_signal m ρ K c 11 (by decide) _ (dev11_eq c) ?_
  refine step_signal m ρ K c 12 (by decide) _ (dev12_eq c) ?_
  exact done c (hk _ _ _)
/-- Part 6: signals 13 to 14. -/
theorem run_part6 (c : Dev nD) (w2 : BitVec 32) (v95 : BitVec 32) (v63 : BitVec 32) (v96 : BitVec 1) {Q : _ → sProp 𝕄} {Fr : sProp 𝕄}
    (hk : ∀ r59 r64 r65, iprop(records m ρ K ∗ SigSt c 15 ∗ Fr) ⊢ Q ⟨r59, r64, r65⟩) :
    iprop(records m ρ K ∗ SigSt c 13 ∗ Fr) ⊢ runs c (k0_part6 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 (SemArray.scalar (sig.barrier 0 rfl) : Sems sig S_) v95 v63 v96) Q := by
  rw [k0_part6_eq_skeleton]; unfold k0_part6_skel
  refine step_signal m ρ K c 13 (by decide) _ (dev13_eq c) ?_
  refine step_signal m ρ K c 14 (by decide) _ (dev14_eq c) ?_
  exact done c (hk _ _ _)
/-- Part 7: the last signal, the barrier wait, the router's inputs loaded. -/
theorem run_part7 (c : Dev nD) (v59 : BitVec 32) (v64 : BitVec 1) (v65 : BitVec 32) {Q : _ → sProp 𝕄} {Fr : sProp 𝕄}
    (hk : iprop((records m ρ K ∗ SendSt m ρ c 0 0) ∗ (semVal (barCell c) 0 ∗ Fr) ∗ ins m ρ c)
      ⊢ Q ⟨k0_pay1 (xV m ρ c), k0_pay2 (eV m ρ c), k0_pay3 (xV m ρ c) (wV m ρ c) (eV m ρ c), k0_pay4 (me c) (xV m ρ c) (wV m ρ c) (eV m ρ c), Scalar.muli (me c) 4#32, 1#32⟩) :
    iprop(records m ρ K ∗ SigSt c 15 ∗ barDue c ∗ ins m ρ c ∗ Fr) ⊢ runs c (k0_part7 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c (me c) (SemArray.scalar (sig.barrier 0 rfl) : Sems sig S_) v59 v64 v65) Q := by
  rw [k0_part7_eq_skeleton]; unfold k0_part7_skel
  refine step_signal m ρ K c 15 (by decide) _ (dev15_eq c) ?_
  refine step_barrier m ρ K c ?_
  refine BIBase.Entails.trans (Q := iprop((records m ρ K ∗ SendSt m ρ c 0 0) ∗ (semVal (barCell c) 0 ∗ Fr) ∗ ins m ρ c)) ?_ ?_
  · iintro ⟨H1, H2, H3, H4⟩
    isplitl [H1 H2]; · isplitl [H1] <;> iassumption
    isplitl [H4] <;> iassumption
  refine load_x m ρ c ?_
  refine load_w m ρ c ?_
  refine load_e m ρ c ?_
  exact done c hk

end Cert.Moe

end
-- ==== Proof.PartsB.lean ====
/-
# The body, second part: the partial result stored and sent

Parts 8 to 11 of the body: the four 128-row stores of the device's partial result, the copies of its 32-row blocks to the
other devices, the shared expert's result for the device's own rows, and those rows of the partial result put into the
device's own slot.
-/
module

public import proofs.«01_k».proof.Proof.PartsA

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg) (K : CK → ℕ)

/-! ## The conditions on the device's place -/

theorem cond1_iff (c : Dev nD) : k0_cond1 c = 1#1 ↔ c ≠ 0 := by revert c; decide +kernel
theorem cond2_iff (c : Dev nD) : k0_cond2 c = 1#1 ↔ c ≠ 1 := by revert c; decide +kernel
theorem cond3_iff (c : Dev nD) : k0_cond3 c = 1#1 ↔ c ≠ 2 := by revert c; decide +kernel
theorem cond4_iff (c : Dev nD) : k0_cond4 c = 1#1 ↔ c ≠ 3 := by revert c; decide +kernel
theorem cond5_iff (c : Dev nD) : k0_cond5 c = 1#1 ↔ c ≠ 4 := by revert c; decide +kernel
theorem cond6_iff (c : Dev nD) : k0_cond6 c = 1#1 ↔ c ≠ 5 := by revert c; decide +kernel
theorem cond7_iff (c : Dev nD) : k0_cond7 c = 1#1 ↔ c ≠ 6 := by revert c; decide +kernel
theorem cond8_iff (c : Dev nD) : k0_cond8 c = 1#1 ↔ c ≠ 7 := by revert c; decide +kernel
theorem cond9_iff (c : Dev nD) : k0_cond9 c = 1#1 ↔ c ≠ 8 := by revert c; decide +kernel
theorem cond10_iff (c : Dev nD) : k0_cond10 c = 1#1 ↔ c ≠ 9 := by revert c; decide +kernel
theorem cond11_iff (c : Dev nD) : k0_cond11 c = 1#1 ↔ c ≠ 10 := by revert c; decide +kernel
theorem cond12_iff (c : Dev nD) : k0_cond12 c = 1#1 ↔ c ≠ 11 := by revert c; decide +kernel
theorem cond13_iff (c : Dev nD) : k0_cond13 c = 1#1 ↔ c ≠ 12 := by revert c; decide +kernel
theorem cond14_iff (c : Dev nD) : k0_cond14 c = 1#1 ↔ c ≠ 13 := by revert c; decide +kernel
theorem cond15_iff (c : Dev nD) : k0_cond15 c = 1#1 ↔ c ≠ 14 := by revert c; decide +kernel
theorem cond16_iff (c : Dev nD) : k0_cond16 c = 1#1 ↔ c ≠ 15 := by revert c; decide +kernel
theorem cond17_iff (c : Dev nD) : k0_cond17 c = 1#1 ↔ c ≠ 0 := by revert c; decide +kernel
theorem cond18_iff (c : Dev nD) : k0_cond18 c = 1#1 ↔ c ≠ 1 := by revert c; decide +kernel
theorem cond19_iff (c : Dev nD) : k0_cond19 c = 1#1 ↔ c ≠ 2 := by revert c; decide +kernel
theorem cond20_iff (c : Dev nD) : k0_cond20 c = 1#1 ↔ c ≠ 3 := by revert c; decide +kernel
theorem cond21_iff (c : Dev nD) : k0_cond21 c = 1#1 ↔ c ≠ 4 := by revert c; decide +kernel
theorem cond22_iff (c : Dev nD) : k0_cond22 c = 1#1 ↔ c ≠ 5 := by revert c; decide +kernel
theorem cond23_iff (c : Dev nD) : k0_cond23 c = 1#1 ↔ c ≠ 6 := by revert c; decide +kernel
theorem cond24_iff (c : Dev nD) : k0_cond24 c = 1#1 ↔ c ≠ 7 := by revert c; decide +kernel
theorem cond25_iff (c : Dev nD) : k0_cond25 c = 1#1 ↔ c ≠ 8 := by revert c; decide +kernel
theorem cond26_iff (c : Dev nD) : k0_cond26 c = 1#1 ↔ c ≠ 9 := by revert c; decide +kernel
theorem cond27_iff (c : Dev nD) : k0_cond27 c = 1#1 ↔ c ≠ 10 := by revert c; decide +kernel
theorem cond28_iff (c : Dev nD) : k0_cond28 c = 1#1 ↔ c ≠ 11 := by revert c; decide +kernel
theorem cond29_iff (c : Dev nD) : k0_cond29 c = 1#1 ↔ c ≠ 12 := by revert c; decide +kernel
theorem cond30_iff (c : Dev nD) : k0_cond30 c = 1#1 ↔ c ≠ 13 := by revert c; decide +kernel
theorem cond31_iff (c : Dev nD) : k0_cond31 c = 1#1 ↔ c ≠ 14 := by revert c; decide +kernel
theorem cond32_iff (c : Dev nD) : k0_cond32 c = 1#1 ↔ c ≠ 15 := by revert c; decide +kernel

set_option maxHeartbeats 1600000 in
/-- Part 8: the experts' weights loaded, the first 128 rows stored, the copy to device 0. -/
theorem run_part8 (c : Dev nD) {Q : _ → sProp 𝕄} {Fr : sProp 𝕄}
    (hk : ∀ v272, iprop(records m ρ K ∗ SendSt m ρ c 1 4 ∗ Fr ∗ ins m ρ c) ⊢ Q ⟨xsV m ρ c, ewV m ρ c, v272⟩) :
    iprop((records m ρ K ∗ SendSt m ρ c 0 0) ∗ ((∃ f, chunkPts c 0 f) ∗ Fr) ∗ ins m ρ c)
      ⊢ runs c (k0_part8 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c (me c) (k0_pay1 (xV m ρ c)) (k0_pay2 (eV m ρ c)) (k0_pay3 (xV m ρ c) (wV m ρ c) (eV m ρ c)) (k0_pay4 (me c) (xV m ρ c) (wV m ρ c) (eV m ρ c)) (Scalar.muli (me c) 4#32) 1#32) Q := by
  rw [k0_part8_eq_skeleton]; unfold k0_part8_skel
  refine load_exp m ρ c ?_
  refine BIBase.Entails.trans (Q := iprop(records m ρ K ∗ SendSt m ρ c 0 (4 * (0 : Fin 4).val) ∗ (∃ f, chunkPts c 0 f) ∗ Fr ∗ ins m ρ c)) ?_ ?_
  · iintro ⟨⟨H1, H2⟩, ⟨H3, H4⟩, H5⟩
    isplitl [H1]; · iexact H1
    isplitl [H2]; · iexact H2
    isplitl [H3]; · iexact H3
    isplitl [H4] <;> iassumption
  refine step_chunk m ρ K c 0 0 (by decide) (by decide) rfl ?_
  refine step_send m ρ K c 0 4 (by decide) (cond1_iff c) (by decide) (k0_off2_eq c) (by decide) (k0_off1_eq c) (fun _ => by rfl) ?_
  exact done c (hk _)

set_option maxHeartbeats 1600000 in
/-- Part 9: copies to devices 1 to 7 and, after the third, the second 128 rows stored. -/
theorem run_part9 (c : Dev nD) {Q : _ → sProp 𝕄} {Fr : sProp 𝕄}
    (hk : ∀ a b d e f g h, iprop(records m ρ K ∗ SendSt m ρ c 8 8 ∗ Fr) ⊢ Q ⟨a, b, d, e, f, g, h, k0_pay9 (xsV m ρ c)⟩) :
    iprop(records m ρ K ∗ SendSt m ρ c 1 4 ∗ (∃ f, chunkPts c 1 f) ∗ Fr)
      ⊢ runs c (k0_part9 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c (me c) (xsV m ρ c) (ewV m ρ c)) Q := by
  rw [k0_part9_eq_skeleton]; unfold k0_part9_skel
  refine step_send m ρ K c 1 4 (by decide) (cond2_iff c) (by decide) (k0_off4_eq c) (by decide) (k0_off3_eq c) (fun _ => by rfl) ?_
  refine step_send m ρ K c 2 4 (by decide) (cond3_iff c) (by decide) (k0_off6_eq c) (by decide) (k0_off5_eq c) (fun _ => by rfl) ?_
  refine step_send m ρ K c 3 4 (by decide) (cond4_iff c) (by decide) (k0_off8_eq c) (by decide) (k0_off7_eq c) (fun _ => by rfl) ?_
  refine step_chunk m ρ K c 1 4 (by decide) (by decide) rfl ?_
  refine step_send m ρ K c 4 8 (by decide) (cond5_iff c) (by decide) (k0_off10_eq c) (by decide) (k0_off9_eq c) (fun _ => by rfl) ?_
  refine step_send m ρ K c 5 8 (by decide) (cond6_iff c) (by decide) (k0_off12_eq c) (by decide) (k0_off11_eq c) (fun _ => by rfl) ?_
  refine step_send m ρ K c 6 8 (by decide) (cond7_iff c) (by decide) (k0_off14_eq c) (by decide) (k0_off13_eq c) (fun _ => by rfl) ?_
  refine step_send m ρ K c 7 8 (by decide) (cond8_iff c) (by decide) (k0_off16_eq c) (by decide) (k0_off15_eq c) (fun _ => by rfl) ?_
  exact done c (hk _ _ _ _ _ _ _)

set_option maxHeartbeats 1600000 in
/-- Part 10: the third and fourth 128 rows stored, copies to devices 8 to 12. -/
theorem run_part10 (c : Dev nD) {Q : _ → sProp 𝕄} {Fr : sProp 𝕄}
    (hk : ∀ a b d e f g, iprop(records m ρ K ∗ SendSt m ρ c 13 16 ∗ Fr) ⊢ Q ⟨a, b, d, e, f, g⟩) :
    iprop(records m ρ K ∗ SendSt m ρ c 8 8 ∗ (∃ f, chunkPts c 2 f) ∗ (∃ f, chunkPts c 3 f) ∗ Fr)
      ⊢ runs c (k0_part10 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c (me c) (xsV m ρ c) (ewV m ρ c) (k0_pay9 (xsV m ρ c))) Q := by
  rw [k0_part10_eq_skeleton]; unfold k0_part10_skel
  refine step_chunk m ρ K c 2 8 (by decide) (by decide) rfl ?_
  refine step_send m ρ K c 8 12 (by decide) (cond9_iff c) (by decide) (k0_off18_eq c) (by decide) (k0_off17_eq c) (fun _ => by rfl) ?_
  refine step_send m ρ K c 9 12 (by decide) (cond10_iff c) (by decide) (k0_off20_eq c) (by decide) (k0_off19_eq c) (fun _ => by rfl) ?_
  refine step_send m ρ K c 10 12 (by decide) (cond11_iff c) (by decide) (k0_off22_eq c) (by decide) (k0_off21_eq c) (fun _ => by rfl) ?_
  refine step_send m ρ K c 11 12 (by decide) (cond12_iff c) (by decide) (k0_off24_eq c) (by decide) (k0_off23_eq c) (fun _ => by rfl) ?_
  refine step_chunk m ρ K c 3 12 (by decide) (by decide) rfl ?_
  refine step_send m ρ K c 12 16 (by decide) (cond13_iff c) (by decide) (k0_off26_eq c) (by decide) (k0_off25_eq c) (fun _ => by rfl) ?_
  exact done c (hk _ _ _ _ _ _)

/-- Once every copy is started, the device's own rows can be read. -/
theorem own_rows (c : Dev nD) : SendSt m ρ c 16 16 ⊢ iprop(rowPts c c (part m ρ c) ∗ (rowPts c c (part m ρ c) -∗ SendSt m ρ c 16 16)) := by
  unfold SendSt
  have h : (bigSep (rangeSet 16 0 16) fun d : Fin 16 => sent m ρ c d)
      = iprop(rowPts c c (part m ρ c) ∗ bigSep (Finset.univ.erase c) fun d : Dev nD => sent m ρ c d) := by
    rw [rangeSet_univ]
    refine (bigSep_univ_at (fun d : Dev nD => sent m ρ c d) c).trans ?_
    congr 1
    unfold sent; rw [if_pos rfl]
  rw [h]
  iintro ⟨Ho, Ht, Hr, Hown, Hd⟩
  isplitl [Hown]; · iexact Hown
  iintro Hown
  isplitl [Ho]; · iexact Ho
  isplitl [Ht]; · iexact Ht
  isplitl [Hr]; · iexact Hr
  isplitl [Hown] <;> iassumption

/-- The device's own rows loaded. -/
theorem load_rows (c : Dev nD) {α : Type} {o : Fin 2 → ℕ} (ho : o = ![32 * c.val, 0]) {h : ∀ a, o a + S32x512.size a ≤ S512x512.size a} {hl}
    {kont : Vec F S32x512 .bf16 → Prog (TpuEff nD τ sig (Elt F) Λ₀ .tc) α} {Q : α → sProp 𝕄} {R S : sProp 𝕄}
    (hk : iprop((R ∗ SendSt m ρ c 16 16) ∗ S) ⊢ runs c (kont (myRows m ρ c)) Q) :
    iprop((R ∗ SendSt m ρ c 16 16) ∗ S) ⊢ runs c (Prog.lift (.load partM (Rect.unit (s := S512x512) o S32x512.size h).toLoadRect hl) >>= kont) Q := by
  refine step_load c (M := partM) (S := rowSet c) (f := part m ρ c)
    (Fr := iprop((rowPts c c (part m ρ c) -∗ SendSt m ρ c 16 16) ∗ R ∗ S)) ?_
    (read_myRows m ρ c o ho h) ?_ (BIBase.Entails.trans ?_ hk)
  · have hs : (partM.access (Rect.unit (s := S512x512) o S32x512.size h)).set = rowSet c := (View.set_slice_whole _ _).trans (row_box c o ho h)
    rw [← hs, View.set_slice]; exact Finset.Subset.refl _
  · iintro ⟨⟨HR, HSt⟩, HS⟩
    ihave H := (own_rows m ρ c) $$ HSt
    icases H with ⟨H1, H2⟩
    isplitl [H1]; · unfold rowPts; iexact H1
    isplitl [H2]; · iexact H2
    isplitl [HR] <;> iassumption
  · iintro ⟨H1, H2, HR, HS⟩
    isplitr [HS]
    · isplitl [HR]; · iexact HR
      iapply H2
      unfold rowPts
      iexact H1
    iexact HS

set_option maxHeartbeats 1600000 in
/-- Part 11: the last three copies, the shared result, the device's own rows into its own slot. -/
theorem run_part11 (c : Dev nD) {Q : _ → sProp 𝕄} {Fr : sProp 𝕄}
    (hk : ∀ a b v, iprop(slotPts c c (landed m ρ c) ∗ (records m ρ K ∗ SendSt m ρ c 16 16) ∗ Fr ∗ ins m ρ c) ⊢ Q ⟨a, b, k0_pay12 (xRows m ρ c) (shV m ρ c), v⟩) :
    iprop(records m ρ K ∗ SendSt m ρ c 13 16 ∗ ((∃ f, slotPts c c f) ∗ Fr) ∗ ins m ρ c)
      ⊢ runs c (k0_part11 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c (me c)) Q := by
  rw [k0_part11_eq_skeleton]; unfold k0_part11_skel
  refine step_send m ρ K c 13 16 (by decide) (cond14_iff c) (by decide) (k0_off28_eq c) (by decide) (k0_off27_eq c) (fun _ => by rfl) ?_
  refine step_send m ρ K c 14 16 (by decide) (cond15_iff c) (by decide) (k0_off30_eq c) (by decide) (k0_off29_eq c) (fun _ => by rfl) ?_
  refine step_send m ρ K c 15 16 (by decide) (cond16_iff c) (by decide) (k0_off32_eq c) (by decide) (k0_off31_eq c) (fun _ => by rfl) ?_
  refine BIBase.Entails.trans (Q := iprop((records m ρ K ∗ SendSt m ρ c 16 16) ∗ ((∃ f, slotPts c c f) ∗ Fr) ∗ ins m ρ c)) ?_ ?_
  · iintro ⟨H1, H2, H3⟩
    isplitl [H1 H2]; · isplitl [H1]; · iexact H1
                       iexact H2
    iexact H3
  refine load_xrows m ρ c (k0_off33_eq c) ?_
  refine load_sh m ρ c ?_
  refine load_rows m ρ c (k0_off34_eq c) ?_
  refine step_own m ρ c (k0_off35_eq c) rfl (Fr := iprop((records m ρ K ∗ SendSt m ρ c 16 16) ∗ Fr ∗ ins m ρ c)) ?_ ?_
  · iintro ⟨H1, ⟨H2, H3⟩, H4⟩
    isplitl [H2]; · iexact H2
    isplitl [H1]; · iexact H1
    isplitl [H3] <;> iassumption
  exact done c (hk _ _ _)

end Cert.Moe

end
-- ==== Proof.PartsC.lean ====
/-
# The body, third part: the landings, the sum, the end

Parts 12 to 20 of the body: the waits for the fifteen landings, the sum over the devices stored into the result, and the
waits for the copies to have left.
-/
module

public import proofs.«01_k».proof.Proof.PartsB

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg) (K : CK → ℕ)

/-! ## The landings -/

theorem off36_1 (c : Dev nD) : k0_off36 c 1#32 = ![(peer c 1).val] := by revert c; decide +kernel
theorem off36_2 (c : Dev nD) : k0_off36 c 2#32 = ![(peer c 2).val] := by revert c; decide +kernel
theorem off36_3 (c : Dev nD) : k0_off36 c 3#32 = ![(peer c 3).val] := by revert c; decide +kernel
theorem off36_4 (c : Dev nD) : k0_off36 c 4#32 = ![(peer c 4).val] := by revert c; decide +kernel
theorem off36_5 (c : Dev nD) : k0_off36 c 5#32 = ![(peer c 5).val] := by revert c; decide +kernel
theorem off36_6 (c : Dev nD) : k0_off36 c 6#32 = ![(peer c 6).val] := by revert c; decide +kernel
theorem off36_7 (c : Dev nD) : k0_off36 c 7#32 = ![(peer c 7).val] := by revert c; decide +kernel
theorem off36_8 (c : Dev nD) : k0_off36 c 8#32 = ![(peer c 8).val] := by revert c; decide +kernel
theorem off36_9 (c : Dev nD) : k0_off36 c 9#32 = ![(peer c 9).val] := by revert c; decide +kernel
theorem off36_10 (c : Dev nD) : k0_off36 c 10#32 = ![(peer c 10).val] := by revert c; decide +kernel
theorem off36_11 (c : Dev nD) : k0_off36 c 11#32 = ![(peer c 11).val] := by revert c; decide +kernel
theorem off36_12 (c : Dev nD) : k0_off36 c 12#32 = ![(peer c 12).val] := by revert c; decide +kernel
theorem off36_13 (c : Dev nD) : k0_off36 c 13#32 = ![(peer c 13).val] := by revert c; decide +kernel
theorem off36_14 (c : Dev nD) : k0_off36 c 14#32 = ![(peer c 14).val] := by revert c; decide +kernel
theorem off36_15 (c : Dev nD) : k0_off36 c 15#32 = ![(peer c 15).val] := by revert c; decide +kernel

/-- Part 12: the landings from peers 1, 2. -/
theorem run_part12 (c : Dev nD) (w2 v364 : BitVec 32) {Q : _ → sProp 𝕄} {Fr : sProp 𝕄}
    (hk : ∀ r1 r2 r3, iprop(records m ρ K ∗ RecvSt m ρ c 3 ∗ Fr) ⊢ Q ⟨r1, r2, r3⟩) :
    iprop(records m ρ K ∗ RecvSt m ρ c 1 ∗ Fr)
      ⊢ runs c (k0_part12 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 v364) Q := by
  rw [k0_part12_eq_skeleton]; unfold k0_part12_skel
  refine step_recv m ρ K c 1 (by decide) (off36_1 c) ?_
  refine step_recv m ρ K c 2 (by decide) (off36_2 c) ?_
  exact done c (hk _ _ _)
/-- Part 13: the landings from peers 3, 4. -/
theorem run_part13 (c : Dev nD) (w2 v391 v392 : BitVec 32) (v397 : BitVec 1) {Q : _ → sProp 𝕄} {Fr : sProp 𝕄}
    (hk : ∀ r1 r2 r3 r4, iprop(records m ρ K ∗ RecvSt m ρ c 5 ∗ Fr) ⊢ Q ⟨r1, r2, r3, r4⟩) :
    iprop(records m ρ K ∗ RecvSt m ρ c 3 ∗ Fr)
      ⊢ runs c (k0_part13 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 v391 v392 v397) Q := by
  rw [k0_part13_eq_skeleton]; unfold k0_part13_skel
  refine step_recv m ρ K c 3 (by decide) (off36_3 c) ?_
  refine step_recv m ρ K c 4 (by decide) (off36_4 c) ?_
  exact done c (hk _ _ _ _)
/-- Part 14: the landings from peers 5, 6. -/
theorem run_part14 (c : Dev nD) (w2 v427 v428 : BitVec 32) (v429 v430 : BitVec 1) {Q : _ → sProp 𝕄} {Fr : sProp 𝕄}
    (hk : ∀ r1 r2, iprop(records m ρ K ∗ RecvSt m ρ c 7 ∗ Fr) ⊢ Q ⟨r1, r2⟩) :
    iprop(records m ρ K ∗ RecvSt m ρ c 5 ∗ Fr)
      ⊢ runs c (k0_part14 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 v427 v428 v429 v430) Q := by
  rw [k0_part14_eq_skeleton]; unfold k0_part14_skel
  refine step_recv m ρ K c 5 (by decide) (off36_5 c) ?_
  refine step_recv m ρ K c 6 (by decide) (off36_6 c) ?_
  exact done c (hk _ _)
/-- Part 15: the landings from peers 7, 8. -/
theorem run_part15 (c : Dev nD) (w2 v463 v464 : BitVec 32) {Q : _ → sProp 𝕄} {Fr : sProp 𝕄}
    (hk : ∀ r1 r2 r3, iprop(records m ρ K ∗ RecvSt m ρ c 9 ∗ Fr) ⊢ Q ⟨r1, r2, r3⟩) :
    iprop(records m ρ K ∗ RecvSt m ρ c 7 ∗ Fr)
      ⊢ runs c (k0_part15 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 v463 v464) Q := by
  rw [k0_part15_eq_skeleton]; unfold k0_part15_skel
  refine step_recv m ρ K c 7 (by decide) (off36_7 c) ?_
  refine step_recv m ρ K c 8 (by decide) (off36_8 c) ?_
  exact done c (hk _ _ _)
/-- Part 16: the landings from peers 9, 10. -/
theorem run_part16 (c : Dev nD) (w2 v497 c16 c0 : BitVec 32) {Q : _ → sProp 𝕄} {Fr : sProp 𝕄}
    (hk : iprop(records m ρ K ∗ RecvSt m ρ c 11 ∗ Fr) ⊢ Q ⟨⟩) :
    iprop(records m ρ K ∗ RecvSt m ρ c 9 ∗ Fr)
      ⊢ runs c (k0_part16 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 v497 c16 c0) Q := by
  rw [k0_part16_eq_skeleton]; unfold k0_part16_skel
  refine step_recv m ρ K c 9 (by decide) (off36_9 c) ?_
  refine step_recv m ρ K c 10 (by decide) (off36_10 c) ?_
  exact done c (hk)
/-- Part 17: the landings from peers 11. -/
theorem run_part17 (c : Dev nD) (w2 : BitVec 32) {Q : _ → sProp 𝕄} {Fr : sProp 𝕄}
    (hk : iprop(records m ρ K ∗ RecvSt m ρ c 12 ∗ Fr) ⊢ Q ⟨⟩) :
    iprop(records m ρ K ∗ RecvSt m ρ c 11 ∗ Fr)
      ⊢ runs c (k0_part17 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2) Q := by
  rw [k0_part17_eq_skeleton]; unfold k0_part17_skel
  refine step_recv m ρ K c 11 (by decide) (off36_11 c) ?_
  exact done c (hk)
/-- Part 18: the landings from peers 12, 13. -/
theorem run_part18 (c : Dev nD) (w2 : BitVec 32) {Q : _ → sProp 𝕄} {Fr : sProp 𝕄}
    (hk : iprop(records m ρ K ∗ RecvSt m ρ c 14 ∗ Fr) ⊢ Q ⟨⟩) :
    iprop(records m ρ K ∗ RecvSt m ρ c 12 ∗ Fr)
      ⊢ runs c (k0_part18 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2) Q := by
  rw [k0_part18_eq_skeleton]; unfold k0_part18_skel
  refine step_recv m ρ K c 12 (by decide) (off36_12 c) ?_
  refine step_recv m ρ K c 13 (by decide) (off36_13 c) ?_
  exact done c (hk)

/-! ## The result -/

/-- What the device stores: the shared expert's result for its rows plus what landed, summed over the devices. -/
def outV (c : Dev nD) : FVec F S32x512 .f32 := k0_pay14 (k0_pay12 (xRows m ρ c) (shV m ρ c)) (landed m ρ c)

/-- All landings and the device's own slot are the whole receive buffer. -/
theorem recv_join (c : Dev nD) :
    iprop(slotPts c c (landed m ρ c) ∗ bigSep (rangeSet 16 1 16) fun i : Fin 16 => recvDone m ρ c i)
      ⊢ iprop(((recvM.view.loc (c : Thread nD τ)) ↦{fullShare} (landed m ρ c)) ∗ bigSep (rangeSet 16 1 16) fun i : Fin 16 => semVal (recvCell c (peer c i)) 0) := by
  have e1 : (((recvM.view.loc (c : Thread nD τ)) ↦{fullShare} (landed m ρ c)) : sProp 𝕄)
      = iprop(slotPts c c (landed m ρ c) ∗ bigSep (rangeSet 16 1 16) fun i : Fin 16 => slotPts c (peer c i) (landed m ρ c)) := by
    refine (recv_split c (landed m ρ c)).trans ?_
    rw [bigSep_univ_equiv (peerEquiv c) (fun s : Dev nD => slotPts (F := F) c s (landed m ρ c)), ← rangeSet_univ,
      bigSep_rangeSet_head (lo := 0) (hi := 16) (by decide) (by decide)]
    show iprop(slotPts c (peer c 0) (landed m ρ c) ∗ _) = _
    rw [peer_zero]
    rfl
  rw [e1]
  have e2 : (bigSep (rangeSet 16 1 16) fun i : Fin 16 => recvDone m ρ c i)
      = iprop((bigSep (rangeSet 16 1 16) fun i : Fin 16 => slotPts c (peer c i) (landed m ρ c)) ∗ bigSep (rangeSet 16 1 16) fun i : Fin 16 => semVal (recvCell c (peer c i)) 0) :=
    bigSep_sep' _ _ _
  rw [e2]
  iintro ⟨H1, H2, H3⟩
  isplitl [H1 H2]
  · isplitl [H1] <;> iassumption
  iexact H3

/-- The result buffer of device `c`, the receive buffer when everything is there. -/
abbrev outPts (c : Dev nD) : sProp 𝕄 := iprop((outM.view.loc (c : Thread nD τ)) ↦{fullShare} (outV m ρ c : Buf (Elt F) (outM.view.loc (c : Thread nD τ))))
abbrev recvFull (c : Dev nD) : sProp 𝕄 := (recvM.view.loc (c : Thread nD τ)) ↦{fullShare} (landed m ρ c)

set_option maxHeartbeats 1600000 in
/-- Part 19: the last two landings, the sum stored, the first copy known to have left. -/
theorem run_part19 (c : Dev nD) (w2 : BitVec 32) (v272 v275 : BitVec 1) {Q : _ → sProp 𝕄} {Fr : sProp 𝕄}
    (hk : ∀ r1 r2, iprop(records m ρ K ∗ OutSt m ρ c 1 ∗ outPts m ρ c ∗ recvFull m ρ c ∗ (bigSep (rangeSet 16 1 16) fun i : Fin 16 => semVal (recvCell c (peer c i)) 0) ∗ Fr) ⊢ Q ⟨r1, r2⟩) :
    iprop(records m ρ K ∗ RecvSt m ρ c 14 ∗ slotPts c c (landed m ρ c) ∗ (∃ f, (outM.view.loc (c : Thread nD τ)) ↦{fullShare} f)
        ∗ (bigSep Finset.univ fun d : Dev nD => outDue m ρ c d) ∗ Fr)
      ⊢ runs c (k0_part19 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c w2 v272 v275 (k0_pay12 (xRows m ρ c) (shV m ρ c))) Q := by
  rw [k0_part19_eq_skeleton]; unfold k0_part19_skel
  refine step_recv m ρ K c 14 (by decide) (off36_14 c) ?_
  refine step_recv m ρ K c 15 (by decide) (off36_15 c) ?_
  refine step_load c (M := recvM) (S := Finset.univ) (f := landed m ρ c) (v := landed m ρ c)
    (Fr := iprop(records m ρ K ∗ ow c 0 ∗ (bigSep Finset.univ fun d : Dev nD => outDue m ρ c d)
      ∗ (∃ f, (outM.view.loc (c : Thread nD τ)) ↦{fullShare} f) ∗ (bigSep (rangeSet 16 1 16) fun i : Fin 16 => semVal (recvCell c (peer c i)) 0) ∗ Fr))
    (Finset.subset_univ _) (Memref.readAt_unit_zero (Elt F) cc0_scratch1 zero3 _ _) ?_ ?_
  · show iprop(records m ρ K ∗ RecvSt m ρ c 16 ∗ slotPts c c (landed m ρ c) ∗ (∃ f, (outM.view.loc (c : Thread nD τ)) ↦{fullShare} f)
        ∗ (bigSep Finset.univ fun d : Dev nD => outDue m ρ c d) ∗ Fr) ⊢ _
    unfold RecvSt
    iintro ⟨#HE, ⟨Ho, -, Hd⟩, Hs, Hf, Hdue, HF⟩
    ihave H := (recv_join m ρ c) $$ [Hs Hd]
    · isplitl [Hs] <;> iassumption
    icases H with ⟨H1, H2⟩
    isplitl [H1]; · iexact H1
    isplitr; · iexact HE
    isplitl [Ho]; · iexact Ho
    isplitl [Hdue]; · iexact Hdue
    isplitl [Hf]; · iexact Hf
    isplitl [H2] <;> iassumption
  refine step_result c (Fr := iprop(records m ρ K ∗ ow c 0 ∗ (bigSep Finset.univ fun d : Dev nD => outDue m ρ c d)
      ∗ recvFull m ρ c ∗ (bigSep (rangeSet 16 1 16) fun i : Fin 16 => semVal (recvCell c (peer c i)) 0) ∗ Fr)) ?_ ?_
  · iintro ⟨H1, #HE, Ho, Hdue, Hf, H2, HF⟩
    isplitl [Hf]; · iexact Hf
    isplitr; · iexact HE
    isplitl [Ho]; · iexact Ho
    isplitl [Hdue]; · iexact Hdue
    isplitl [H1]; · iexact H1
    isplitl [H2] <;> iassumption
  refine BIBase.Entails.trans (Q := iprop(records m ρ K ∗ OutSt m ρ c (0 : Dev nD).val ∗ outPts m ρ c ∗ recvFull m ρ c ∗ (bigSep (rangeSet 16 1 16) fun i : Fin 16 => semVal (recvCell c (peer c i)) 0) ∗ Fr)) ?_ ?_
  · have e : OutSt m ρ c (0 : Dev nD).val = iprop(ow c 0 ∗ (bigSep Finset.univ fun d : Dev nD => outDue m ρ c d) ∗ emp) := by
      unfold OutSt
      show iprop(ow c 0 ∗ (bigSep (rangeSet 16 0 16) fun d : Fin 16 => outDue m ρ c d) ∗ bigSep (rangeSet 16 0 0) fun d : Fin 16 => outDone m ρ c d) = _
      rw [rangeSet_univ, bigSep_rangeSet_empty le_rfl]
    rw [e]
    iintro ⟨Hf, #HE, Ho, Hdue, H1, H2, HF⟩
    isplitr; · iexact HE
    isplitl [Ho Hdue]
    · isplitl [Ho]; · iexact Ho
      isplitl [Hdue]; · iexact Hdue
      iempintro
    isplitl [Hf]; · iexact Hf
    isplitl [H1]; · iexact H1
    isplitl [H2] <;> iassumption
  refine step_out m ρ K c 0 (cond17_iff c) (by decide) ?_
  exact done c (hk _ _)

set_option maxHeartbeats 1600000 in
/-- Part 20: the copies to devices 1 to 12 known to have left. -/
theorem run_part20 (c : Dev nD) (a1 a2 a3 a4 a5 a6 a7 a8 a9 a10 a11 a12 : BitVec 1) (v630 c0 : BitVec 32) {Q : _ → sProp 𝕄} {Fr : sProp 𝕄}
    (hk : ∀ r1 r2, iprop(records m ρ K ∗ OutSt m ρ c 13 ∗ Fr) ⊢ Q ⟨r1, r2⟩) :
    iprop(records m ρ K ∗ OutSt m ρ c 1 ∗ Fr)
      ⊢ runs c (k0_part20 (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3 c a1 a2 a3 a4 a5 a6 a7 a8 a9 a10 a11 a12 v630 c0) Q := by
  rw [k0_part20_eq_skeleton]; unfold k0_part20_skel
  refine step_out m ρ K c 1 (cond18_iff c) (by decide) ?_
  refine step_out m ρ K c 2 (cond19_iff c) (by decide) ?_
  refine step_out m ρ K c 3 (cond20_iff c) (by decide) ?_
  refine step_out m ρ K c 4 (cond21_iff c) (by decide) ?_
  refine step_out m ρ K c 5 (cond22_iff c) (by decide) ?_
  refine step_out m ρ K c 6 (cond23_iff c) (by decide) ?_
  refine step_out m ρ K c 7 (cond24_iff c) (by decide) ?_
  refine step_out m ρ K c 8 (cond25_iff c) (by decide) ?_
  refine step_out m ρ K c 9 (cond26_iff c) (by decide) ?_
  refine step_out m ρ K c 10 (cond27_iff c) (by decide) ?_
  refine step_out m ρ K c 11 (cond28_iff c) (by decide) ?_
  refine step_out m ρ K c 12 (cond29_iff c) (by decide) ?_
  exact done c (hk _ _)

end Cert.Moe

end
-- ==== Proof.Body.lean ====
/-
# The body of one device, whole

The twenty parts in order, from a device's resources at the launch to its result stored, its scratch buffers whole and
its thirty-three semaphores at zero.
-/
module

public import proofs.«01_k».proof.Proof.PartsC

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg) (K : CK → ℕ)

/-! ## Entry -/

/-- A family over the devices, the device itself first and then its peers in order. -/
theorem around (c : Dev nD) (Φ : Dev nD → sProp 𝕄) : bigSep Finset.univ Φ = iprop(Φ c ∗ bigSep (rangeSet 16 1 16) fun i : Fin 16 => Φ (peer c i)) := by
  rw [bigSep_univ_equiv (peerEquiv c) Φ, ← rangeSet_univ, bigSep_rangeSet_head (lo := 0) (hi := 16) (by decide) (by decide)]
  show iprop(Φ (peer c 0) ∗ _) = _
  rw [peer_zero]
  rfl

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The tokens of the duties device `c` pays: a unit on each peer's barrier, the copies to the peers. -/
def payToks (c : Dev nD) : sProp 𝕄 :=
  iprop((bigSep (rangeSet 16 1 16) fun i : Fin 16 => dutyTok ER (barCell (peer c i)) 0 c) ∗ bigSep Finset.univ fun d : Dev nD => copyTok c d)
/-- Device `c`'s own positions, and its tokens. -/
def linear (c : Dev nD) : sProp 𝕄 :=
  iprop(atPos ER (barCell c) 0 ∅ 0 ∗ (bigSep Finset.univ fun d : Dev nD => atPos ER (sendCell c d) 0 ∅ 0)
    ∗ (bigSep Finset.univ fun d : Dev nD => atPos ER (recvCell c d) 0 ∅ 0) ∗ payToks c)
/-- The credits it waits with. -/
def credits (c : Dev nD) : sProp 𝕄 :=
  iprop(cred (tallyAt (barCell c) () 15) ∗ bigSep (rangeSet 16 1 16) fun i : Fin 16 => cred (tallyAt (recvCell c (peer c i)) () N))
/-- The two scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What the later phases need beyond the signals and the barrier. -/
def later (c : Dev nD) : sProp 𝕄 :=
  iprop((∃ f, chunkPts (F := F) c 0 f) ∗ (∃ f, chunkPts (F := F) c 1 f) ∗ (∃ f, chunkPts (F := F) c 2 f) ∗ (∃ f, chunkPts (F := F) c 3 f)
    ∗ (∃ f, slotPts (F := F) c c f))
def waitsDue (c : Dev nD) : sProp 𝕄 :=
  iprop((bigSep (rangeSet 16 1 16) fun i : Fin 16 => recvDue (F := F) c i) ∗ atPos ER (recvCell c c) 0 ∅ 0
    ∗ bigSep Finset.univ fun d : Dev nD => atPos ER (sendCell c d) 0 ∅ 0)

/-- The device's resources at entry, sorted by phase. -/
theorem entry (c : Dev nD) :
    iprop(linear (F := F) c ∗ credits c ∗ levAts L lv ∗ scratch c ∗ ow c (O₀ c))
      ⊢ iprop(SigSt (F := F) c 1 ∗ barDue c ∗ later c ∗ waitsDue c) := by
  unfold linear payToks credits scratch
  rw [around c (fun d : Dev nD => (atPos ER (recvCell c d) 0 ∅ 0 : sProp 𝕄))]
  iintro ⟨⟨HaB, HaS, ⟨HaR0, HaR⟩, HtB, HtC⟩, ⟨HcB, HcR⟩, Hlev, ⟨⟨%f0, Hs0⟩, ⟨%f1, Hs1⟩⟩, Ho⟩
  ihave H0 := (Entails.of_eq ((part_chunks c f0).trans (bigSep_fin4 _))) $$ Hs0
  icases H0 with ⟨Hk0, Hk1, Hk2, Hk3⟩
  ihave H1 := (Entails.of_eq ((recv_split c f1).trans (around c _))) $$ Hs1
  icases H1 with ⟨Hsl, Hsls⟩
  ihave Hsig := (Entails.of_eq (bigSep_sep' (rangeSet 16 1 16) (fun i : Fin 16 => (dutyTok ER (barCell (peer c i)) 0 c : sProp 𝕄)) (fun i : Fin 16 => slotPts c (peer c i) f1)).symm) $$ [HtB Hsls]
  · isplitl [HtB] <;> iassumption
  ihave Hrcv := (Entails.of_eq (bigSep_sep' (rangeSet 16 1 16) (fun i : Fin 16 => (cred (tallyAt (recvCell c (peer c i)) () N) : sProp 𝕄)) (fun i : Fin 16 => (atPos ER (recvCell c (peer c i)) 0 ∅ 0 : sProp 𝕄))).symm) $$ [HcR HaR]
  · isplitl [HcR] <;> iassumption
  isplitl [Ho Hsig]
  · unfold SigSt
    isplitl [Ho]; · iexact Ho
    iapply (each (s := rangeSet 16 1 16) (Φ := fun i : Fin 16 => iprop(dutyTok ER (barCell (peer c i)) 0 c ∗ slotPts (F := F) c (peer c i) f1)) (Ψ := fun i : Fin 16 => sigTok (F := F) c i) fun i _ => by
      unfold sigTok
      iintro ⟨H1, H2⟩
      isplitl [H1]; · iexact H1
      iexists f1; iexact H2)
    iexact Hsig
  isplitl [HcB HaB Hlev HtC]
  · unfold barDue
    isplitl [HcB]; · iexact HcB
    isplitl [HaB]; · iexact HaB
    isplitl [Hlev] <;> iassumption
  isplitl [Hk0 Hk1 Hk2 Hk3 Hsl]
  · unfold later
    isplitl [Hk0]; · iexists f0; iexact Hk0
    isplitl [Hk1]; · iexists f0; iexact Hk1
    isplitl [Hk2]; · iexists f0; iexact Hk2
    isplitl [Hk3]; · iexists f0; iexact Hk3
    iexists f1; iexact Hsl
  unfold waitsDue
  isplitl [Hrcv]; · unfold recvDue; iexact Hrcv
  isplitl [HaR0] <;> iassumption

/-! ## Between the phases -/

/-- With every copy started, the landings can be waited for. -/
theorem to_recv (c : Dev nD) :
    iprop(SendSt m ρ c 16 16 ∗ waitsDue c)
      ⊢ iprop(RecvSt m ρ c 1 ∗ (bigSep Finset.univ fun d : Dev nD => outDue m ρ c d) ∗ atPos ER (recvCell c c) 0 ∅ 0) := by
  unfold SendSt waitsDue RecvSt
  rw [owR_end, rangeSet_univ, bigSep_rangeSet_empty (lo := 1) (hi := 1) le_rfl]
  iintro ⟨⟨Ho, -, -, Hs⟩, Hr, Ha, HaS⟩
  isplitl [Ho Hr]
  · isplitl [Ho]; · iexact Ho
    isplitl [Hr]; · iexact Hr
    iempintro
  isplitl [Hs HaS]
  · ihave H := (Entails.of_eq (bigSep_sep' (Finset.univ : Finset (Dev nD)) (fun d : Dev nD => sent m ρ c d) (fun d : Dev nD => (atPos ER (sendCell c d) 0 ∅ 0 : sProp 𝕄))).symm) $$ [Hs HaS]
    · isplitl [Hs] <;> iassumption
    iexact H
  iexact Ha

/-! ## Exit -/

/-- The exchange's semaphores of device `c`, all at zero. -/
def zeros (c : Dev nD) : sProp 𝕄 :=
  iprop((bigSep Finset.univ fun d : Dev nD => semVal (sendCell c d) 0) ∗ (bigSep Finset.univ fun d : Dev nD => semVal (recvCell c d) 0) ∗ semVal (barCell c) 0)

/-- The end: the scratch buffers whole again, every semaphore at zero. -/
theorem finish (c : Dev nD) {Q : PUnit → sProp 𝕄} {Fr : sProp 𝕄}
    (hk : iprop(ow c 0 ∗ zeros c ∗ scratch c ∗ outPts m ρ c ∗ Fr) ⊢ Q ⟨⟩) :
    iprop(records m ρ K ∗ OutSt m ρ c 16 ∗ outPts m ρ c ∗ recvFull m ρ c ∗ (bigSep (rangeSet 16 1 16) fun i : Fin 16 => semVal (recvCell c (peer c i)) 0)
        ∗ semVal (barCell c) 0 ∗ atPos ER (recvCell c c) 0 ∅ 0 ∗ Fr)
      ⊢ runs c (pure ⟨⟩) Q := by
  have e : OutSt m ρ c 16 = iprop(ow c 0 ∗ ((bigSep Finset.univ fun d : Dev nD => rowPts c d (part m ρ c)) ∗ bigSep Finset.univ fun d : Dev nD => semVal (sendCell c d) 0)) := by
    unfold OutSt
    rw [bigSep_rangeSet_empty (lo := 16) (hi := 16) le_rfl, rangeSet_univ]
    have h : (bigSep Finset.univ fun d : Fin 16 => outDone m ρ c d) = iprop((bigSep Finset.univ fun d : Dev nD => rowPts c d (part m ρ c)) ∗ bigSep Finset.univ fun d : Dev nD => semVal (sendCell c d) 0) :=
      bigSep_sep' _ _ _
    rw [h, emp_sep_eq'']
  rw [e]
  iintro ⟨#HE, ⟨Ho, Hrows, HzS⟩, Hout, Hrcv, HzR, HzB, Hat, HF⟩
  imod (Rounds.cell_close ER (Rd m ρ) (Set.mem_univ (K (c, recvIx c))) (fun h => h) (R := 0) (duties_recv_self m ρ c)) $$ [Hat] with HzR0
  · isplitr; · iapply (inv_recv m ρ K c c); iexact HE
    iexact Hat
  iapply (done c hk)
  isplitl [Ho]; · iexact Ho
  isplitl [HzS HzR HzR0 HzB]
  · unfold zeros
    rw [around c (fun d : Dev nD => (semVal (recvCell c d) 0 : sProp 𝕄))]
    isplitl [HzS]; · iexact HzS
    isplitl [HzR HzR0]
    · isplitl [HzR0] <;> iassumption
    iexact HzB
  isplitl [Hrows Hrcv]
  · unfold scratch
    isplitl [Hrows]
    · iexists (part m ρ c)
      iapply (Entails.of_eq (part_split c (part m ρ c)).symm)
      iexact Hrows
    iexists (landed m ρ c)
    iexact Hrcv
  isplitl [Hout] <;> iassumption

/-! ## The whole body -/

set_option maxHeartbeats 1600000 in
/-- The body of device `c`, from its resources at entry to the result stored and every semaphore at zero. -/
theorem run_body (c : Dev nD) {Q : PUnit → sProp 𝕄} {Fr : sProp 𝕄}
    (hk : iprop(ow c 0 ∗ zeros c ∗ scratch c ∗ outPts m ρ c ∗ ins m ρ c ∗ Fr) ⊢ Q ⟨⟩) :
    iprop(records m ρ K ∗ (linear c ∗ credits c ∗ levAts L lv ∗ scratch c ∗ ow c (O₀ c)) ∗ ins m ρ c ∗ (∃ f, (outM.view.loc (c : Thread nD τ)) ↦{fullShare} f) ∗ Fr)
      ⊢ runs c (cc0_body (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3) Q := by
  rw [cc0_body_eq_skeleton]; unfold cc0_body_skel
  refine BIBase.Entails.trans (Q := iprop(records m ρ K ∗ SigSt c 1 ∗ barDue c ∗ ins m ρ c ∗ later c ∗ waitsDue c ∗ (∃ f, (outM.view.loc (c : Thread nD τ)) ↦{fullShare} f) ∗ Fr)) ?_ ?_
  · iintro ⟨#HE, Hin, Hins, Hout, HF⟩
    ihave H := (entry c) $$ Hin
    icases H with ⟨H1, H2, H3, H4⟩
    isplitr; · iexact HE
    isplitl [H1]; · iexact H1
    isplitl [H2]; · iexact H2
    isplitl [Hins]; · iexact Hins
    isplitl [H3]; · iexact H3
    isplitl [H4]; · iexact H4
    isplitl [Hout] <;> iassumption
  refine cut c (run_part1 m ρ K c fun v30 c16 v31 => ?_)
  refine cut c (run_part2 m ρ K c _ _ _ _ fun r1 r2 r3 => ?_)
  refine cut c (run_part3 m ρ K c _ _ _ _ fun r1 r2 r3 => ?_)
  refine cut c (run_part4 m ρ K c _ _ _ _ fun r1 r2 r3 => ?_)
  refine cut c (run_part5 m ρ K c _ _ _ _ fun r1 r2 r3 => ?_)
  refine cut c (run_part6 m ρ K c _ _ _ _ fun r1 r2 r3 => ?_)
  refine cut c (run_part7 m ρ K c _ _ _ ?_)
  refine BIBase.Entails.trans (Q := iprop((records m ρ K ∗ SendSt m ρ c 0 0) ∗ ((∃ f, chunkPts c 0 f)
      ∗ (∃ f, chunkPts c 1 f) ∗ (∃ f, chunkPts c 2 f) ∗ (∃ f, chunkPts c 3 f) ∗ (∃ f, slotPts c c f)
      ∗ semVal (barCell c) 0 ∗ waitsDue c ∗ (∃ f, (outM.view.loc (c : Thread nD τ)) ↦{fullShare} f) ∗ Fr) ∗ ins m ρ c)) ?_ ?_
  · unfold later
    iintro ⟨H1, ⟨Hz, ⟨Hk0, Hk1, Hk2, Hk3, Hsl⟩, Hw⟩, Hi⟩
    isplitl [H1]; · iexact H1
    isplitr [Hi]
    · isplitl [Hk0]; · iexact Hk0
      isplitl [Hk1]; · iexact Hk1
      isplitl [Hk2]; · iexact Hk2
      isplitl [Hk3]; · iexact Hk3
      isplitl [Hsl]; · iexact Hsl
      isplitl [Hz] <;> iassumption
    iexact Hi
  refine cut c (run_part8 m ρ K c fun r => ?_)
  refine BIBase.Entails.trans (Q := iprop(records m ρ K ∗ SendSt m ρ c 1 4 ∗ (∃ f, chunkPts c 1 f) ∗ (∃ f, chunkPts c 2 f) ∗ (∃ f, chunkPts c 3 f) ∗ (∃ f, slotPts c c f)
      ∗ (semVal (barCell c) 0 ∗ waitsDue c ∗ (∃ f, (outM.view.loc (c : Thread nD τ)) ↦{fullShare} f) ∗ Fr) ∗ ins m ρ c)) ?_ ?_
  · iintro ⟨H1, H2, ⟨Hk1, Hk2, Hk3, Hsl, Hw⟩, Hi⟩
    isplitl [H1]; · iexact H1
    isplitl [H2]; · iexact H2
    isplitl [Hk1]; · iexact Hk1
    isplitl [Hk2]; · iexact Hk2
    isplitl [Hk3]; · iexact Hk3
    isplitl [Hsl]; · iexact Hsl
    isplitl [Hw] <;> iassumption
  refine cut c (run_part9 m ρ K c fun _ _ _ _ _ _ _ => ?_)
  refine cut c (run_part10 m ρ K c fun _ _ _ _ _ _ => ?_)
  refine BIBase.Entails.trans (Q := iprop(records m ρ K ∗ SendSt m ρ c 13 16 ∗ ((∃ f, slotPts c c f)
      ∗ (semVal (barCell c) 0 ∗ waitsDue c ∗ (∃ f, (outM.view.loc (c : Thread nD τ)) ↦{fullShare} f) ∗ Fr)) ∗ ins m ρ c)) ?_ ?_
  · iintro ⟨H1, H2, Hsl, Hw, Hi⟩
    isplitl [H1]; · iexact H1
    isplitl [H2]; · iexact H2
    isplitl [Hsl Hw]
    · isplitl [Hsl] <;> iassumption
    iexact Hi
  refine cut c (run_part11 m ρ K c fun _ _ _ => ?_)
  refine BIBase.Entails.trans (Q := iprop(records m ρ K ∗ RecvSt m ρ c 1 ∗ slotPts c c (landed m ρ c) ∗ (∃ f, (outM.view.loc (c : Thread nD τ)) ↦{fullShare} f)
      ∗ (bigSep Finset.univ fun d : Dev nD => outDue m ρ c d) ∗ semVal (barCell c) 0 ∗ atPos ER (recvCell c c) 0 ∅ 0 ∗ ins m ρ c ∗ Fr)) ?_ ?_
  · iintro ⟨Hsl, ⟨H1, H2⟩, ⟨Hz, Hw, Hout, HF⟩, Hi⟩
    ihave H := (to_recv m ρ c) $$ [H2 Hw]
    · isplitl [H2] <;> iassumption
    icases H with ⟨Hr, Hd, Ha⟩
    isplitl [H1]; · iexact H1
    isplitl [Hr]; · iexact Hr
    isplitl [Hsl]; · iexact Hsl
    isplitl [Hout]; · iexact Hout
    isplitl [Hd]; · iexact Hd
    isplitl [Hz]; · iexact Hz
    isplitl [Ha]; · iexact Ha
    isplitl [Hi] <;> iassumption
  refine cut c (run_part12 m ρ K c _ _ fun _ _ _ => ?_)
  refine cut c (run_part13 m ρ K c _ _ _ _ fun _ _ _ _ => ?_)
  refine cut c (run_part14 m ρ K c _ _ _ _ _ fun _ _ => ?_)
  refine cut c (run_part15 m ρ K c _ _ _ fun _ _ _ => ?_)
  refine cut c (run_part16 m ρ K c _ _ _ _ ?_)
  refine cut c (run_part17 m ρ K c _ ?_)
  refine cut c (run_part18 m ρ K c _ ?_)
  refine cut c (run_part19 m ρ K c _ _ _ fun _ _ => ?_)
  refine cut c (run_part20 m ρ K c _ _ _ _ _ _ _ _ _ _ _ _ _ _ fun _ _ => ?_)
  refine step_out m ρ K c 13 (cond30_iff c) (by decide) ?_
  refine step_out m ρ K c 14 (cond31_iff c) (by decide) ?_
  refine step_out m ρ K c 15 (cond32_iff c) (by decide) ?_
  exact finish m ρ K c hk

end Cert.Moe

end
-- ==== Proof.Deal.lean ====
/-
# The launch: dealing out the tokens, the cells and the credits

At launch every device holds its own thirty-three semaphores at zero, and the sixteen devices together mint the schedule's
tokens. This file deals them: a cell's invariant for every semaphore, shared by all devices; each device's positions at
its own cells; to each device the tokens of the duties it pays, which sit on other devices' cells; and the credit its own
waits take.
-/
module

public import proofs.«01_k».proof.Proof.Body
public import proofs.«01_k».proof.Proof.Gen.KernelIdeal.Points

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

theorem csem_injective : Function.Injective csem := by
  have h : ∀ a b : Option (Fin 32), csem a = csem b → a = b := by decide +kernel
  exact fun a b => h a b

theorem kcell_injective : Function.Injective (kcell : CK → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- A family over the 32 numbered semaphores is one over the send semaphores and one over the receive semaphores. -/
theorem arrays (c : Dev nD) (Φ : GSem nD τ sig → sProp 𝕄) :
    (bigSep Finset.univ fun k : Fin 32 => Φ ((c : Thread nD τ), osem k))
      = iprop((bigSep Finset.univ fun d : Dev nD => Φ (sendCell c d)) ∗ bigSep Finset.univ fun d : Dev nD => Φ (recvCell c d)) := by
  rw [bigSep_univ_equiv (finSumFinEquiv (m := 16) (n := 16)) (fun k : Fin 32 => Φ ((c : Thread nD τ), osem k)), bigSep_univ_sum]
  have h1 : (fun a : Fin 16 => Φ ((c : Thread nD τ), osem (finSumFinEquiv (m := 16) (n := 16) (.inl a)))) = fun d : Dev nD => Φ (sendCell c d) := by
    funext a; rw [finSumFinEquiv_apply_left]; rfl
  have h2 : (fun a : Fin 16 => Φ ((c : Thread nD τ), osem (finSumFinEquiv (m := 16) (n := 16) (.inr a)))) = fun d : Dev nD => Φ (recvCell c d) := by
    funext a; rw [finSumFinEquiv_apply_right, ← kcell_recv]; rfl
  rw [h1, h2]
  rfl

/-- A family over all 33 cells of a device. -/
theorem cells33 (c : Dev nD) (Φ : GSem nD τ sig → sProp 𝕄) :
    (bigSep Finset.univ fun k : Option (Fin 32) => Φ (kcell (c, k)))
      = iprop(Φ (barCell c) ∗ (bigSep Finset.univ fun d : Dev nD => Φ (sendCell c d)) ∗ bigSep Finset.univ fun d : Dev nD => Φ (recvCell c d)) := by
  rw [← arrays c Φ, bigSep_univ_equiv (Equiv.optionEquivSumPUnit.{0, 0} (Fin 32)).symm (fun k : Option (Fin 32) => Φ (kcell (c, k))), bigSep_univ_sum,
    bigSep_univ_of_subsingleton PUnit.unit]
  show iprop((bigSep Finset.univ fun k : Fin 32 => Φ ((c : Thread nD τ), osem k)) ∗ Φ (barCell c)) = iprop(Φ (barCell c) ∗ bigSep Finset.univ fun k : Fin 32 => Φ ((c : Thread nD τ), osem k))
  exact BI.Entails.antisymm (show _ ⊢ (_ : sProp 𝕄) from by
      iintro ⟨H1, H2⟩
      isplitl [H2]; · iexact H2
      iexact H1)
    (show _ ⊢ (_ : sProp 𝕄) from by
      iintro ⟨H1, H2⟩
      isplitl [H2]; · iexact H2
      iexact H1)

/-! ## The tokens -/

/-- The tokens as minted: device, which semaphore family, which payer; the self-addressed ones are never used. -/
abbrev tokOf (x : Dev nD × Fin 3 × Dev nD) : GSem nD τ sig × ℕ × Dev nD := match x.2.1 with
  | 0 => (barCell x.1, 0, x.2.2)
  | 1 => (sendCell x.1 x.2.2, 0, x.2.2)
  | 2 => (recvCell x.1 x.2.2, 0, x.2.2)

/-- Which family a cell belongs to. -/
def family : SemLoc sig → Fin 3
  | .reg _ => 0
  | .dma q => if 22 ≤ q.val then 2 else 1

theorem tokOf_family (x : Dev nD × Fin 3 × Dev nD) : family (tokOf x).1.2 = x.2.1 := by
  obtain ⟨c, k, d⟩ := x
  have hd : d.val < 16 := d.isLt
  fin_cases k
  · rfl
  · show (if 22 ≤ 6 + d.val then 2 else 1 : Fin 3) = 1
    rw [if_neg (by omega)]
  · show (if 22 ≤ 22 + d.val then 2 else 1 : Fin 3) = 2
    rw [if_pos (by omega)]

theorem tokOf_dev (x : Dev nD × Fin 3 × Dev nD) : (tokOf x).1.1.1 = x.1 ∧ (tokOf x).2.2 = x.2.2 := by
  obtain ⟨c, k, d⟩ := x
  fin_cases k <;> exact ⟨rfl, rfl⟩

theorem tokOf_injective : Function.Injective tokOf := by
  intro x y h
  have h1 : x.1 = y.1 := by rw [← (tokOf_dev x).1, h, (tokOf_dev y).1]
  have h2 : x.2.1 = y.2.1 := by rw [← tokOf_family x, h, tokOf_family y]
  have h3 : x.2.2 = y.2.2 := by rw [← (tokOf_dev x).2, h, (tokOf_dev y).2]
  exact Prod.ext h1 (Prod.ext h2 h3)

def allCells : Finset (GSem nD τ sig) := Finset.univ.map ⟨kcell, kcell_injective⟩
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Dev nD => dutyTok ER (barCell c) 0 d) ∗ (bigSep Finset.univ fun d : Dev nD => dutyTok ER (sendCell c d) 0 d)
    ∗ bigSep Finset.univ fun d : Dev nD => dutyTok ER (recvCell c d) 0 d)

/-- What the minting deals device `c`. -/
def G (c : Dev nD) : sProp 𝕄 :=
  iprop((bigSep Finset.univ fun k : Option (Fin 32) => roundState ER (Rd m ρ) (kcell (c, k)) 0)
    ∗ (bigSep Finset.univ fun k : Option (Fin 32) => iprop(atPos ER (kcell (c, k)) 0 ∅ 0 ∗ reached ER (kcell (c, k)) 0)) ∗ toks c)
/-- What the dealing makes of it. -/
def G' (c : Dev nD) : sProp 𝕄 := iprop(∃ K, records m ρ K ∗ linear c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem mint : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Option (Fin 32) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = iprop((bigSep Finset.univ fun d : Dev nD => semVal (sendCell c d) 0) ∗ bigSep Finset.univ fun d : Dev nD => semVal (recvCell c d) 0) := by
  unfold Pipeline.ownSems0; exact arrays c fun g => semVal g 0
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 32) => semVal (kcell (c, k)) 0 : sProp 𝕄) := by
  rw [ownSems0_eq, unscopedSems0_eq, cells33 c fun g => semVal g 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option (Fin 32) => iprop(∃ κ : ℕ, cellInv ER (Rd m ρ) κ (kcell (c, k))))
          ∗ (bigSep Finset.univ fun k : Option (Fin 32) => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 32) => semVal (kcell (c, k)) 0) ∗ bigSep Finset.univ fun k : Option (Fin 32) => roundState ER (Rd m ρ) (kcell (c, k)) 0)
      ⊢ (|={Set.univ}=> bigSep Finset.univ fun k : Option (Fin 32) => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to their payers -/

/-- The token on device `c`'s copy to `d` beside the one on its landing there, dropped where `d = c`. -/
theorem copyTok_intro (c d : Dev nD) :
    iprop(dutyTok ER (sendCell c d) 0 d ∗ dutyTok ER (recvCell d c) 0 c) ⊢ (copyTok c d : sProp 𝕄) := by
  unfold copyTok
  split
  · iintro -; iempintro
  · iintro H; iexact H

omit [FloatOps F] in
/-- A family over pairs of devices, taken the other way round. -/
theorem swap (Φ : Dev nD → Dev nD → sProp 𝕄) :
    (bigSep Finset.univ fun c : Dev nD => bigSep Finset.univ fun d : Dev nD => Φ c d) = bigSep Finset.univ fun d : Dev nD => bigSep Finset.univ fun c : Dev nD => Φ c d := by
  rw [← bigSep_univ_prod (fun x : Dev nD × Dev nD => Φ x.1 x.2), bigSep_univ_equiv (Equiv.prodComm (Dev nD) (Dev nD)), bigSep_univ_prod]
  rfl

/-- Every token goes to the device that pays its duty: the barrier's and the receive semaphores' tokens change hands, the
    send semaphores' stay. -/
theorem toks_deal : (bigSep Finset.univ fun c : Dev nD => (toks c : sProp 𝕄)) ⊢ bigSep Finset.univ fun c : Dev nD => payToks c := by
  unfold toks payToks
  rw [bigSep_sep', bigSep_sep', bigSep_sep',
    swap (fun (c d : Dev nD) => (dutyTok ER (barCell c) 0 d : sProp 𝕄)),
    swap (fun (c d : Dev nD) => (dutyTok ER (recvCell c d) 0 d : sProp 𝕄))]
  have h1 : (bigSep Finset.univ fun c : Dev nD => bigSep Finset.univ fun d : Dev nD => (dutyTok ER (barCell d) 0 c : sProp 𝕄))
      ⊢ bigSep Finset.univ fun c : Dev nD => bigSep (rangeSet 16 1 16) fun i : Fin 16 => dutyTok ER (barCell (peer c i)) 0 c :=
    bigSep_mono fun c _ => by
      rw [around c (fun d : Dev nD => (dutyTok ER (barCell d) 0 c : sProp 𝕄))]
      exact (show iprop(dutyTok ER (barCell c) 0 c ∗ bigSep (rangeSet 16 1 16) fun i : Fin 16 => (dutyTok ER (barCell (peer c i)) 0 c : sProp 𝕄))
        ⊢ bigSep (rangeSet 16 1 16) fun i : Fin 16 => (dutyTok ER (barCell (peer c i)) 0 c : sProp 𝕄) from sep_elim_right)
  have h2 : (bigSep Finset.univ fun c : Dev nD => iprop((bigSep Finset.univ fun d : Dev nD => (dutyTok ER (sendCell c d) 0 d : sProp 𝕄))
        ∗ bigSep Finset.univ fun d : Dev nD => (dutyTok ER (recvCell d c) 0 c : sProp 𝕄)))
      ⊢ bigSep Finset.univ fun c : Dev nD => bigSep Finset.univ fun d : Dev nD => copyTok c d :=
    bigSep_mono fun c _ => by
      rw [← bigSep_sep']; exact bigSep_mono fun d _ => copyTok_intro c d
  iintro ⟨H1, H2, H3⟩
  isplitl [H1]
  · iapply h1; iexact H1
  iapply h2
  ihave H := (Entails.of_eq (bigSep_sep' (Finset.univ : Finset (Dev nD)) (fun c : Dev nD => bigSep Finset.univ fun d : Dev nD => (dutyTok ER (sendCell c d) 0 d : sProp 𝕄))
    (fun c : Dev nD => bigSep Finset.univ fun d : Dev nD => (dutyTok ER (recvCell d c) 0 c : sProp 𝕄))).symm) $$ [H2 H3]
  · isplitl [H2] <;> iassumption
  iexact H

omit [FloatOps F] in
/-- A persistent fact goes to every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (Fin 32) => iprop(∃ κ : ℕ, cellInv ER (Rd m ρ) κ (kcell (c, k))))
          ∗ (bigSep Finset.univ fun k : Option (Fin 32) => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : CK => iprop(∃ κ : ℕ, cellInv ER (Rd m ρ) κ (kcell ck))),
    bigSep_congr (s := Finset.univ) (fun (c : Dev nD) _ => bigSep_sep' Finset.univ (fun k : Option (Fin 32) => (atPos ER (kcell (c, k)) 0 ∅ 0 : sProp 𝕄)) (fun k => reached ER (kcell (c, k)) 0)),
    bigSep_sep', ← bigSep_univ_prod (fun ck : CK => (reached ER (kcell ck) 0 : sProp 𝕄))]
  iintro ⟨HI, ⟨Hat, #HR⟩, Htok⟩
  ihave HK := (BI.bigSep_exists_pi Finset.univ (fun (ck : CK) (κ : ℕ) => (cellInv ER (Rd m ρ) κ (kcell ck) : sProp 𝕄))) $$ HI
  icases HK with ⟨%K, #HI⟩
  ihave Htk := (toks_deal (F := F)) $$ Htok
  iapply (share_out (R := records m ρ K) fun c _ => show iprop(records m ρ K ∗ linear c) ⊢ G' m ρ c from by
    unfold G'
    iintro H
    iexists K
    iexact H)
  isplitr
  · unfold records; isplitl; · iexact HI
    iexact HR
  · iapply ((Entails.of_eq (bigSep_sep' Finset.univ (fun c : Dev nD => bigSep Finset.univ fun k : Option (Fin 32) => (atPos ER (kcell (c, k)) 0 ∅ 0 : sProp 𝕄)) payToks).symm).trans
      (bigSep_mono fun c _ => show _ ⊢ linear c from by
        unfold linear
        rw [cells33 c fun g => (atPos ER g 0 ∅ 0 : sProp 𝕄)]
        iintro ⟨⟨H1, H2, H3⟩, H4⟩
        isplitl [H1]; · iexact H1
        isplitl [H2]; · iexact H2
        isplitl [H3] <;> iassumption))
    isplitl [Hat]; · iexact Hat
    iexact Htk

/-- The dealing, all devices at once. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- A sum over the fifteen peers is one over all devices with the device itself left out. -/
theorem sum_peers {A : Type} [AddCommMonoid A] (c : Dev nD) (f : Dev nD → A) :
    ∑ i ∈ rangeSet 16 1 16, f (peer c i) = ∑ d : Dev nD, if d = c then 0 else f d := by
  rw [← Equiv.sum_comp (peerEquiv c) (fun d => if d = c then 0 else f d), ← rangeSet_univ,
    sum_rangeSet_head (fun i : Fin 16 => if peerEquiv c i = c then 0 else f (peerEquiv c i)) (lo := 0) (by decide),
    if_pos (show peerEquiv c ⟨0, _⟩ = c from peer_zero c), add_zero]
  exact Finset.sum_congr rfl fun i hi => (if_neg (peer_ne c i ((mem_rangeSet _ _ _).mp hi).1)).symm

/-- What device `c`'s waits take. -/
def due (c : Dev nD) : CellTallies nD τ sig Unit :=
  tallyAt (barCell c) () 15 + ∑ i ∈ rangeSet 16 1 16, tallyAt (recvCell c (peer c i)) () N

theorem tally_times (g : GSem nD τ sig) (n : ℕ) : n • (tallyAt g () 1 : CellTallies nD τ sig Unit) = tallyAt g () n := by
  induction n with
  | zero => rw [zero_smul]; unfold tallyAt; rw [Finsupp.single_zero]; exact (Pi.single_zero _).symm
  | succ n ih => rw [succ_nsmul, ih, tallyAt_add]

/-- Everything owed is everything waited for. -/
theorem owed_due : ∑ d : Dev nD, O₀ d = ∑ d : Dev nD, due d := by
  unfold O₀ due
  rw [Finset.sum_add_distrib, Finset.sum_add_distrib]
  congr 1
  · unfold owB
    rw [Finset.sum_congr rfl fun c _ => sum_peers c fun d : Dev nD => (tallyAt (barCell d) () 1 : CellTallies nD τ sig Unit), Finset.sum_comm]
    refine Finset.sum_congr rfl fun d _ => ?_
    rw [Finset.sum_congr rfl fun c _ => if_congr (eq_comm (a := d) (b := c)) rfl rfl, ← sum_peers d fun _ : Dev nD => (tallyAt (barCell d) () 1 : CellTallies nD τ sig Unit),
      Finset.sum_const, ← tally_times _ 15]
    rfl
  · rw [Finset.sum_congr rfl fun c _ => sum_peers c fun d : Dev nD => (tallyAt (recvCell c d) () N : CellTallies nD τ sig Unit), Finset.sum_comm]
    refine Finset.sum_congr rfl fun d _ => ?_
    unfold owR
    rw [rangeSet_univ]
    exact Finset.sum_congr rfl fun e _ => if_congr eq_comm rfl rfl

theorem due_own (d : Dev nD) (g : GSem nD τ sig) (h : due d g ≠ 0) : g.1 = (d : Thread nD τ) := by
  obtain ⟨u, hu⟩ := Finsupp.ne_iff.mp h
  have hp : 0 < due d g u := Nat.pos_of_ne_zero hu
  unfold due at hp
  rw [Pi.add_apply, Finsupp.add_apply] at hp
  rcases Nat.eq_zero_or_pos ((tallyAt (barCell d) () 15 : CellTallies nD τ sig Unit) g u) with h0 | h0
  · rw [h0, Nat.zero_add] at hp
    obtain ⟨i, -, hi⟩ := sum_tally_pos _ _ hp
    rw [tally_pos hi]
  · rw [tally_pos h0]

theorem creds (c : Dev nD) : (Pipeline.launchCred O₀ c : sProp 𝕄) ⊢ credits c := by
  rw [Pipeline.launchCred_of_sum O₀ due owed_due due_own c]
  unfold due credits
  refine (cred_add _ _).1.trans (sep_mono_right ?_)
  exact Entails.of_eq (Pipeline.cred_finsetSum _ _)

end Cert.Moe

end
-- ==== Proof.Run.lean ====
/-
# The run of the program

The body of every device between its staging copies, launched on all sixteen devices: every execution ends, with each
device's arguments as they were, its result array at the contents `outV`, and every semaphore at zero.
-/
module

public import proofs.«01_k».proof.Proof.Deal
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_univ rangeSet_empty bigSep_rangeSet_head bigSep_rangeSet_last bigSep_rangeSet_empty bigSep_rangeSet_split)

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- What device `c`'s body starts from, beside its scratch buffers. -/
def start (c : Dev nD) : sProp 𝕄 := iprop(G' m ρ c ∗ credits c ∗ levAts L lv)
def Φ₀ (c : Dev nD) : sProp 𝕄 := iprop(start m ρ c ∗ scratch c)
/-- What it ends with. -/
def Φ₁ (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m ρ c
    | ⟨1, _⟩ => wV m ρ c
    | ⟨2, _⟩ => eV m ρ c
    | ⟨3, _⟩ => expV m ρ c
    | ⟨4, _⟩ => shV m ρ c
    | ⟨5, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The one grid point. -/
abbrev pt : Fin cfg0.N := t0_0

def bodyPre (c : Dev nD) : sProp 𝕄 :=
  iprop(Φ₀ m ρ c ∗ (dats m ρ 0 c).owesAt () pt.castSucc
    ∗ (∃ d, stg c cc0_stg0_0 ((dats m ρ 0 c).before (0 : Fin 6) pt d))
    ∗ (∃ d, stg c cc0_stg1_0 ((dats m ρ 0 c).before (1 : Fin 6) pt d))
    ∗ (∃ d, stg c cc0_stg2_0 ((dats m ρ 0 c).before (2 : Fin 6) pt d))
    ∗ (∃ d, stg c cc0_stg3_0 ((dats m ρ 0 c).before (3 : Fin 6) pt d))
    ∗ (∃ d, stg c cc0_stg4_0 ((dats m ρ 0 c).before (4 : Fin 6) pt d))
    ∗ (∃ d, stg c cc0_stg5_0 ((dats m ρ 0 c).before (5 : Fin 6) pt d)))

def bodyPost (c : Dev nD) : sProp 𝕄 :=
  iprop(Φ₁ c ∗ (dats m ρ 0 c).owesAt () pt.succ
    ∗ stg c cc0_stg0_0 (xV m ρ c) ∗ stg c cc0_stg1_0 (wV m ρ c) ∗ stg c cc0_stg2_0 (eV m ρ c) ∗ stg c cc0_stg3_0 (expV m ρ c) ∗ stg c cc0_stg4_0 (shV m ρ c) ∗ stg c cc0_stg5_0 (outV m ρ c))

/-- The body meets what the launch asks of it. -/
theorem sound_body (c : Dev nD) :
    bodyPre m ρ c ⊢ runs c (cc0_body (F := F) xM (Memref.isWhole_whole _) wM (Memref.isWhole_whole _) eM (Memref.isWhole_whole _) expM (Memref.isWhole_whole _) shM (Memref.isWhole_whole _) outM (Memref.isWhole_whole _) partM (Memref.isWhole_whole _) recvM (Memref.isWhole_whole _) cc0_scratch2 cc0_scratch3)
      (fun _ => bodyPost m ρ c) := by
  have hout : iprop(ow c 0 ∗ zeros c ∗ scratch c ∗ outPts m ρ c ∗ ins m ρ c ∗ emp) ⊢ (bodyPost m ρ c : sProp 𝕄) := by
    unfold bodyPost Φ₁ ow Dat.owesAt Pipeline.owesWithin outPts ins xPts wPts ePts expPts shPts
    rw [show (dats m ρ 0 c).owed pt.succ = 0 from rfl]
    iintro ⟨⟨%W, HO⟩, Hz, Hs, Hout, ⟨Hx, Hw, He, Hexp, Hsh⟩, -⟩
    isplitl [Hz Hs]
    · isplitl [Hz] <;> iassumption
    isplitl [HO]
    · iexists W
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    isplitl [He]
    · iexists _; isplitr; · (ipureintro; rfl)
      iexact He
    isplitl [Hexp]
    · iexists _; isplitr; · (ipureintro; rfl)
      iexact Hexp
    isplitl [Hsh]
    · iexists _; isplitr; · (ipureintro; rfl)
      iexact Hsh
    iexists _; isplitr; · (ipureintro; rfl)
    iexact Hout
  unfold bodyPre Φ₀ start G'
  iintro ⟨⟨⟨⟨%K, #HE, Hlin⟩, Hcr, Hlev⟩, Hscr⟩, Ho, ⟨%d0, %g0, %h0, Hx⟩, ⟨%d1, %g1, %h1, Hw⟩, ⟨%d2, %g2, %h2, He⟩, ⟨%d3, %g3, %h3, Hexp⟩, ⟨%d4, %g4, %h4, Hsh⟩, ⟨%d5, %g5, %h5, Hout⟩⟩
  have e0 : g0 = xV m ρ c := by rw [h0]; unfold Dat.before; rw [if_pos (fetch0_0 pt)]; rfl
  subst e0
  have e1 : g1 = wV m ρ c := by rw [h1]; unfold Dat.before; rw [if_pos (fetch0_1 pt)]; rfl
  subst e1
  have e2 : g2 = eV m ρ c := by rw [h2]; unfold Dat.before; rw [if_pos (fetch0_2 pt)]; rfl
  subst e2
  have e3 : g3 = expV m ρ c := by rw [h3]; unfold Dat.before; rw [if_pos (fetch0_3 pt)]; rfl
  subst e3
  have e4 : g4 = shV m ρ c := by rw [h4]; unfold Dat.before; rw [if_pos (fetch0_4 pt)]; rfl
  subst e4
  unfold Dat.owesAt Pipeline.owesWithin
  icases Ho with ⟨%W, %hW, HO⟩
  rw [show (dats m ρ 0 c).owed pt.castSucc = O₀ c from rfl]
  iapply (run_body m ρ K c hout)
  isplitr; · iexact HE
  isplitl [Hlin Hcr Hlev Hscr HO]
  · isplitl [Hlin]; · iexact Hlin
    isplitl [Hcr]; · iexact Hcr
    isplitl [Hlev]; · iexact Hlev
    isplitl [Hscr]; · iexact Hscr
    unfold ow; iexists W; iexact HO
  isplitl [Hx Hw He Hexp Hsh]
  · unfold ins xPts wPts ePts expPts shPts
    isplitl [Hx]; · iexact Hx
    isplitl [Hw]; · iexact Hw
    isplitl [He]; · iexact He
    isplitl [Hexp]; · iexact Hexp
    iexact Hsh
  isplitl [Hout]
  · iexists g5; iexact Hout
  iempintro

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The side conditions of the launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros scratch
  iintro ⟨⟨HzS, HzV, HzB⟩, Hr⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each window's array on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, for any float values, from any memory with every counter at zero: every weakly fair execution of
    the program ends, and in every final state each array of each device is at its computed contents and every semaphore
    counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Moe

end
-- ==== Proof.Final.lean ====
/-
# The result array

After the run the result array of a device holds `outV`, and the values `outV` is made of are read from the argument
arrays: every window is its whole array.
-/
module

public import proofs.«01_k».proof.Proof.Run
public import Idealize.ShloMosaic.Lib.Pipeline.ValueKit

@[expose] public section

set_option maxRecDepth 16384

noncomputable section

namespace Cert.Moe

open Cert.KernelIdeal Cert.KernelIdeal.Gen

open Idealize.ShloMosaic
open Idealize.ShloMosaic.TcCoe
open Idealize.ShloMosaic.Pipeline (Dat Cfg Window)

variable {F : FTy → Type} [FloatOps F]

variable (m : (ℓ : Loc nD τ sig) → Buf (Elt F) ℓ) (ρ : Dev nD → PrngReg)

/-- All six windows stay at the first block. -/
theorem idx : ∀ t : Fin grid0.N, win0_0.index t = ![0, 0] ∧ win0_1.index t = ![0, 0] ∧ win0_2.index t = ![0, 0]
    ∧ win0_3.index t = ![0, 0, 0] ∧ win0_4.index t = ![0, 0] ∧ win0_5.index t = ![0, 0] := by decide +kernel

/-- The activations are read whole, -/
theorem xV_eq (c : Dev nD) : xV m ρ c = m ((c : Thread nD τ).loc main_arg0) := by
  funext j
  blk_ext [xV, s₀, idx (0 : Fin 1)]

/-- so are the router's weights, -/
theorem wV_eq (c : Dev nD) : wV m ρ c = m ((c : Thread nD τ).loc main_arg1) := by
  funext j
  blk_ext [wV, s₀, idx (0 : Fin 1)]

/-- the experts' numbers, -/
theorem eV_eq (c : Dev nD) : eV m ρ c = m ((c : Thread nD τ).loc main_arg2) := by
  funext j
  blk_ext [eV, s₀, idx (0 : Fin 1)]

/-- the device's experts -/
theorem expV_eq (c : Dev nD) : expV m ρ c = m ((c : Thread nD τ).loc main_arg3) := by
  funext j
  blk_ext [expV, s₀, idx (0 : Fin 1)]

/-- and the shared expert. -/
theorem shV_eq (c : Dev nD) : shV m ρ c = m ((c : Thread nD τ).loc main_arg4) := by
  funext j
  blk_ext [shV, s₀, idx (0 : Fin 1)]

/-- The result window is written back once, whole. -/
theorem whole_out : win0_5.WholeAt (⟨0, by decide +kernel⟩ : Fin grid0.N) := by decide +kernel

/-- After the run the result array holds `outV`. -/
theorem finalA_out (c : Dev nD) : finalA m ρ c (5 : Fin 6) = outV m ρ c := by
  refine (dats m ρ 0 c).arrAt_eq_of_after_last (5 : Fin 6) (0 : Fin 1) whole_out _ fun j => ?_
  blk_simp
  rfl

end Cert.Moe
-- ==== Proof.Softmax.lean ====
/-
# The layer's arithmetic, over the extended reals

The router's scores, their softmax, and the weight of the expert that a row names. For finite activations and router
weights the weight is a nonnegative real, so it may be multiplied into a sum or taken out of it.
-/
module

public import Idealize.ShloMosaic.Lib.Pointwise
public import Idealize.ShloMosaic.PureOps.Ideal

@[expose] public section

set_option maxRecDepth 16384

noncomputable section

namespace Cert.Moe

open Idealize.ShloMosaic

/-! ## Sums -/

/-- A nonnegative real factor goes into a sum. -/
theorem mul_sum_real {ι : Type} (s : Finset ι) (p : EReal) (h0 : 0 ≤ p) (ht : p ≠ ⊤) (f : ι → EReal) :
    p * ∑ i ∈ s, f i = ∑ i ∈ s, p * f i := by
  classical
  induction s using Finset.induction_on with
  | empty => simp
  | insert a s ha ih => rw [Finset.sum_insert ha, Finset.sum_insert ha, EReal.left_distrib_of_nonneg_of_ne_top h0 ht, ih]

/-- A sum of reals is real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over 1024 rows is one over four experts' 256 rows each. -/
theorem sum_split (f : Fin 4 → Fin 256 → EReal) :
    ∑ k : Fin 1024, f ⟨k.val / 256, by omega⟩ ⟨k.val % 256, by omega⟩ = ∑ l, ∑ d, f l d :=
  (Equiv.sum_comp (finProdFinEquiv (m := 4) (n := 256)).symm (fun p => f p.1 p.2)).trans (Fintype.sum_prod_type _)

/-- Of sixteen devices' four experts each, one is number `n`. -/
theorem sum_pick (n : ℕ) (hn : n < 64) (f : Fin 16 → Fin 4 → EReal) (h0 : ∀ s l, 4 * s.val + l.val ≠ n → f s l = 0) :
    ∑ s, ∑ l, f s l = f ⟨n / 4, by omega⟩ ⟨n % 4, by omega⟩ := by
  rw [Finset.sum_eq_single (⟨n / 4, by omega⟩ : Fin 16), Finset.sum_eq_single (⟨n % 4, by omega⟩ : Fin 4)]
  · intro l _ hl
    refine h0 _ _ fun h => hl (Fin.ext ?_)
    have h' : 4 * (n / 4) + l.val = n := h
    show l.val = n % 4
    omega
  · exact fun h => absurd (Finset.mem_univ _) h
  · intro s _ hs
    refine Finset.sum_eq_zero fun l _ => h0 _ _ fun h => hs (Fin.ext ?_)
    have := l.isLt
    show s.val = n / 4
    omega
  · exact fun h => absurd (Finset.mem_univ _) h

/-! ## Words -/

/-- Small numbers are told apart by their words. -/
theorem word_inj {i j : ℕ} (hi : i < 64) (hj : j < 64) (h : BitVec.ofNat 32 i = BitVec.ofNat 32 j) : i = j := by
  have := congrArg BitVec.toNat h
  simp only [BitVec.toNat_ofNat] at this
  omega

/-- A choice by an equality of words. -/
theorem select_eq {α : Type} (u v : BitVec 32) (p q : α) : Scalar.select (IntOp.cmpi .eq u v) p q = if u = v then p else q := by
  unfold Scalar.select
  by_cases h : u = v
  · simp [IntOp.cmpi, h]
  · have hb : (u == v) = false := by simp [h]
    simp [IntOp.cmpi, h, hb]

/-! ## The softmax -/

/-- The score of expert `j` for row `a`. -/
def score (x : FVec Ideal ⟨2, ![512, 256]⟩ .bf16) (w : FVec Ideal ⟨2, ![256, 64]⟩ .bf16) (a : Fin 512) (j : Fin 64) : EReal :=
  ∑ k : Fin 256, x (ix2 a k) * w (ix2 k j)

/-- The row's greatest score. -/
def top (x : FVec Ideal ⟨2, ![512, 256]⟩ .bf16) (w : FVec Ideal ⟨2, ![256, 64]⟩ .bf16) (a : Fin 512) : EReal :=
  Finset.fold max (Ideal.ofBits .f32 0xFF800000#32) (fun j : Fin 64 => score x w a j) Finset.univ

/-- The softmax of the scores. -/
def prob (x : FVec Ideal ⟨2, ![512, 256]⟩ .bf16) (w : FVec Ideal ⟨2, ![256, 64]⟩ .bf16) (a : Fin 512) (j : Fin 64) : EReal :=
  Ideal.div (Ideal.exp (score x w a j - top x w a)) (∑ i : Fin 64, Ideal.exp (score x w a i - top x w a))

/-- The probability of the expert whose number is the word `g`; 0 if there is none. -/
def gate (x : FVec Ideal ⟨2, ![512, 256]⟩ .bf16) (w : FVec Ideal ⟨2, ![256, 64]⟩ .bf16) (g : BitVec 32) (a : Fin 512) : EReal :=
  ∑ j : Fin 64, if BitVec.ofNat 32 j.val = g then prob x w a j else 0

/-- All elements are finite. -/
def Finite {ι : Type} (x : ι → EReal) : Prop := ∀ i, x i ≠ ⊤ ∧ x i ≠ ⊥

/-- The literal below all scores is −∞. -/
theorem neg_inf : Ideal.ofBits .f32 0xFF800000#32 = ⊥ := by
  show Ideal.ieee 8 23 0xFF800000#32 = ⊥
  unfold Ideal.ieee
  simp

/-- Finite activations and weights give real scores. -/
theorem score_real (x : FVec Ideal ⟨2, ![512, 256]⟩ .bf16) (w : FVec Ideal ⟨2, ![256, 64]⟩ .bf16) (hx : Finite x) (hw : Finite w) (a : Fin 512)
    (j : Fin 64) : ∃ r : ℝ, score x w a j = (r : EReal) := by
  refine ⟨∑ k : Fin 256, (x (ix2 a k)).toReal * (w (ix2 k j)).toReal, ?_⟩
  rw [← sum_coe]
  refine Finset.sum_congr rfl fun k _ => ?_
  rw [EReal.coe_mul, EReal.coe_toReal (hx _).1 (hx _).2, EReal.coe_toReal (hw _).1 (hw _).2]

/-- The greatest score is one of them. -/
theorem top_mem (x : FVec Ideal ⟨2, ![512, 256]⟩ .bf16) (w : FVec Ideal ⟨2, ![256, 64]⟩ .bf16) (a : Fin 512) : ∃ j, top x w a = score x w a j := by
  obtain ⟨j, _, h⟩ := Finset.exists_mem_eq_sup (Finset.univ : Finset (Fin 64)) Finset.univ_nonempty (fun j => score x w a j)
  refine ⟨j, Eq.trans ?_ h⟩
  unfold top
  rw [neg_inf]
  rfl

/-- The probabilities are nonnegative reals. -/
theorem prob_real (x : FVec Ideal ⟨2, ![512, 256]⟩ .bf16) (w : FVec Ideal ⟨2, ![256, 64]⟩ .bf16) (hx : Finite x) (hw : Finite w) (a : Fin 512)
    (j : Fin 64) : ∃ r : ℝ, 0 ≤ r ∧ prob x w a j = (r : EReal) := by
  choose s hs using fun i => score_real x w hx hw a i
  obtain ⟨i₀, ht⟩ := top_mem x w a
  have he : ∀ i, Ideal.exp (score x w a i - top x w a) = ((Real.exp (s i - s i₀) : ℝ) : EReal) := fun i => by
    rw [ht, hs i, hs i₀, ← EReal.coe_sub]
    rfl
  have hpos : 0 < ∑ i : Fin 64, Real.exp (s i - s i₀) := Finset.sum_pos (fun i _ => Real.exp_pos _) Finset.univ_nonempty
  refine ⟨Real.exp (s j - s i₀) * (∑ i : Fin 64, Real.exp (s i - s i₀))⁻¹,
    mul_nonneg (Real.exp_pos _).le (inv_nonneg.2 hpos.le), ?_⟩
  unfold prob
  rw [he j, Finset.sum_congr rfl fun i _ => he i, sum_coe]
  unfold Ideal.div
  rw [if_neg (by exact_mod_cast hpos.ne'), EReal.coe_mul, EReal.coe_inv]

/-- For a word that numbers an expert the weight is that expert's probability. -/
theorem gate_in (x : FVec Ideal ⟨2, ![512, 256]⟩ .bf16) (w : FVec Ideal ⟨2, ![256, 64]⟩ .bf16) (n : Fin 64) (a : Fin 512) :
    gate x w (BitVec.ofNat 32 n.val) a = prob x w a n := by
  unfold gate
  rw [Finset.sum_eq_single n]
  · rw [if_pos rfl]
  · exact fun j _ hj => if_neg fun h => hj (Fin.ext (word_inj j.isLt n.isLt h))
  · exact fun h => absurd (Finset.mem_univ _) h

/-! ## The routed rows -/

/-- What device `s` with the experts `W` adds to row `a`: the row, weighted where its expert is the device's, times the
    four experts' matrices one over the other. -/
def share (x : FVec Ideal ⟨2, ![512, 256]⟩ .bf16) (w : FVec Ideal ⟨2, ![256, 64]⟩ .bf16) (e : IVec ⟨2, ![512, 1]⟩ 32)
    (W : FVec Ideal ⟨3, ![4, 256, 512]⟩ .bf16) (s : Fin 16) (a b : Fin 512) : EReal :=
  ∑ k : Fin 1024, (if e (ix2 a 0) = BitVec.ofNat 32 (4 * s.val + k.val / 256) then x (ix2 a ⟨k.val % 256, by omega⟩) * gate x w (e (ix2 a 0)) a else 0)
    * W (ix3 ⟨k.val / 256, by omega⟩ ⟨k.val % 256, by omega⟩ b)

/-- All devices' shares are the row's product with its expert's matrix, times its probability. -/
theorem shares_sum (x : FVec Ideal ⟨2, ![512, 256]⟩ .bf16) (w : FVec Ideal ⟨2, ![256, 64]⟩ .bf16) (hx : Finite x) (hw : Finite w)
    (e : IVec ⟨2, ![512, 1]⟩ 32) (W : Fin 16 → FVec Ideal ⟨3, ![4, 256, 512]⟩ .bf16) (a b : Fin 512) (n : Fin 64)
    (he : e (ix2 a 0) = BitVec.ofNat 32 n.val) :
    ∑ s, share x w e (W s) s a b
      = prob x w a n * ∑ d : Fin 256, x (ix2 a d) * W ⟨n.val / 4, by omega⟩ (ix3 ⟨n.val % 4, by omega⟩ d b) := by
  have hs : ∀ s, share x w e (W s) s a b = ∑ l : Fin 4, ∑ d : Fin 256,
      (if e (ix2 a 0) = BitVec.ofNat 32 (4 * s.val + l.val) then x (ix2 a d) * gate x w (e (ix2 a 0)) a else 0) * W s (ix3 l d b) := fun s =>
    sum_split fun l d => (if e (ix2 a 0) = BitVec.ofNat 32 (4 * s.val + l.val) then x (ix2 a d) * gate x w (e (ix2 a 0)) a else 0) * W s (ix3 l d b)
  rw [Finset.sum_congr rfl fun s _ => hs s, sum_pick n.val n.isLt]
  · obtain ⟨r, h0, hr⟩ := prob_real x w hx hw a n
    rw [mul_sum_real _ _ (by rw [hr]; exact_mod_cast h0) (by rw [hr]; exact EReal.coe_ne_top r)]
    refine Finset.sum_congr rfl fun d _ => ?_
    have hn : 4 * (n.val / 4) + n.val % 4 = n.val := by omega
    rw [he, gate_in, if_pos (by rw [hn]), mul_comm (x (ix2 a d)), mul_assoc]
  · intro s l h
    refine Finset.sum_eq_zero fun d _ => ?_
    rw [if_neg, zero_mul]
    rw [he]
    exact fun h' => h (word_inj (by have := s.isLt; have := l.isLt; omega) n.isLt h'.symm)

end Cert.Moe
-- ==== Proof.Rows.lean ====
/-
# The kernel's values, read at an index

Each value a device computes is read as a formula in the argument arrays: the weighted activations, the partial result,
and the rows of the result.
-/
module

public import proofs.«01_k».proof.Proof.Protocol
public import proofs.«01_k».proof.Proof.Geometry
public import proofs.«01_k».proof.Proof.PartsC
public import proofs.«01_k».proof.Proof.Softmax
public import Idealize.ShloMosaic.Lib.Pointwise
public import Idealize.ShloMosaic.Lib.Pointwise.IndexBridge

@[expose] public section

set_option maxRecDepth 16384

noncomputable section

namespace Cert.Moe

open Cert.KernelIdeal Cert.KernelIdeal.Gen
open Idealize.ShloMosaic
open Idealize.ShloMosaic.TcCoe

/-- The kernel's row weight is the probability of the row's expert. -/
theorem pay3_at (x : FVec Ideal S512x256 .bf16) (w : FVec Ideal S256x64 .bf16) (e : IVec S512x1 32) (a : Fin 512) :
    k0_pay3 (F := Ideal) x w e (ix2 a 0) = gate x w (e (ix2 a 0)) a := by
  have h : k0_pay3 (F := Ideal) x w e (ix2 a 0) = ∑ j : Fin 64,
      Scalar.select (IntOp.cmpi .eq (BitVec.ofNat 32 j.val) (e (ix2 a 0))) (prob x w a j) 0 := by
    pointwise [k0_pay3, k0_pay1, k0_pay2]
    rfl
  rw [h]
  exact Finset.sum_congr rfl fun j _ => select_eq _ _ _ _

/-- The device's position along the ring of devices is its number. -/
theorem me_word : ∀ c : Dev nD, me c = BitVec.ofNat 32 c.val := by decide +kernel

/-- The number of the device's expert `l`. -/
theorem expert_word : ∀ (c : Fin 16) (l : Fin 4),
    Scalar.addi (Scalar.muli (BitVec.ofNat 32 c.val) 4#32) (BitVec.ofNat 32 l.val) = BitVec.ofNat 32 (4 * c.val + l.val) := by decide +kernel

/-- The four weighted copies side by side: column `k` belongs to expert `k / 256` of the device. -/
theorem xs_at (x : FVec Ideal S512x256 .bf16) (w : FVec Ideal S256x64 .bf16) (e : IVec S512x1 32) (c : Fin 16) (a : Fin 512) (k : Fin 1024) :
    k0_pay5 (F := Ideal) (BitVec.ofNat 32 c.val) (k0_pay1 x) (k0_pay2 (F := Ideal) e) (k0_pay3 x w e) (k0_pay4 (BitVec.ofNat 32 c.val) x w e)
        (Scalar.muli (BitVec.ofNat 32 c.val) 4#32) 1#32 (ix2 a k)
      = if e (ix2 a 0) = BitVec.ofNat 32 (4 * c.val + k.val / 256) then x (ix2 a ⟨k.val % 256, by omega⟩) * gate x w (e (ix2 a 0)) a else 0 := by
  have h := pay3_at x w e a
  have close : ∀ (l : Fin 4) (i : ℕ) (hi : i < 256), k.val = 256 * l.val + i →
      Scalar.select (IntOp.cmpi .eq (e (ix2 a 0)) (Scalar.addi (Scalar.muli (BitVec.ofNat 32 c.val) 4#32) (BitVec.ofNat 32 l.val)))
          (x (ix2 a ⟨i, hi⟩) * gate x w (e (ix2 a 0)) a) 0
        = if e (ix2 a 0) = BitVec.ofNat 32 (4 * c.val + k.val / 256) then x (ix2 a ⟨k.val % 256, by omega⟩) * gate x w (e (ix2 a 0)) a else 0 := by
    intro l i hi hk
    have h1 : k.val / 256 = l.val := by omega
    have h2 : (⟨k.val % 256, by omega⟩ : Fin 256) = ⟨i, hi⟩ := Fin.ext (show k.val % 256 = i by omega)
    rw [select_eq, expert_word, h1, h2]
  have hk := k.isLt
  generalize hp : k0_pay3 (F := Ideal) x w e = p at h ⊢
  pointwise [k0_pay5, k0_pay4, k0_pay1, k0_pay2]
  rw [hp, h]
  by_cases h0 : k.val < 256
  · rw [dif_pos h0]
    exact close 0 _ h0 (by show k.val = 256 * 0 + _; omega)
  rw [dif_neg h0]
  by_cases h1 : k.val - 256 < 256
  · rw [dif_pos h1]
    exact close 1 _ h1 (by show k.val = 256 * 1 + _; omega)
  rw [dif_neg h1]
  by_cases h2 : k.val - 256 - 256 < 256
  · rw [dif_pos h2]
    exact close 2 _ h2 (by show k.val = 256 * 2 + _; omega)
  rw [dif_neg h2]
  exact close 3 _ (by omega) (by show k.val = 256 * 3 + _; omega)

/-- The four experts' matrices one over the other. -/
theorem ew_at (W : FVec Ideal S4x256x512 .bf16) (k : Fin 1024) (b : Fin 512) :
    k0_pay6 (F := Ideal) W (ix2 k b) = W (ix3 ⟨k.val / 256, by omega⟩ ⟨k.val % 256, by omega⟩ b) := by
  pointwise [k0_pay6]

/-- The first store is rows 0–127 of the product, -/
theorem store0_at (v2 : BitVec 32) (v200 : FVec Ideal S512x256 .bf16) (v214 : IVec S512x1 32) (v221 : FVec Ideal S512x1 .f32)
    (v231 : FVec Ideal S512x256 .bf16) (v232 c1 : BitVec 32) (W : FVec Ideal S4x256x512 .bf16) (r : Fin 128) (b : Fin 512) :
    k0_pay7 (F := Ideal) v2 v200 v214 v221 v231 v232 c1 W (ix2 r b)
      = ∑ k : Fin 1024, k0_pay5 (F := Ideal) v2 v200 v214 v221 v231 v232 c1 (ix2 ⟨0 + r.val, by omega⟩ k) * k0_pay6 (F := Ideal) W (ix2 k b) := by
  generalize hp : k0_pay5 (F := Ideal) v2 v200 v214 v221 v231 v232 c1 = X
  generalize hq : k0_pay6 (F := Ideal) W = Y
  unfold k0_pay7
  rw [hp, hq]
  pointwise []

/-- the second rows 128–255, -/
theorem store1_at (X : FVec Ideal S512x1024 .bf16) (Y : FVec Ideal S1024x512 .bf16) (r : Fin 128) (b : Fin 512) :
    k0_pay8 (F := Ideal) X Y (ix2 r b) = ∑ k : Fin 1024, X (ix2 ⟨128 + r.val, by omega⟩ k) * Y (ix2 k b) := by
  pointwise [k0_pay8]

/-- the third rows 256–383, -/
theorem store2_at (X : FVec Ideal S512x1024 .bf16) (Y : FVec Ideal S1024x512 .bf16) (r : Fin 128) (b : Fin 512) :
    k0_pay10 (F := Ideal) Y (k0_pay9 (F := Ideal) X) (ix2 r b) = ∑ k : Fin 1024, X (ix2 ⟨256 + r.val, by omega⟩ k) * Y (ix2 k b) := by
  pointwise [k0_pay10, k0_pay9]

/-- the last rows 384–511. -/
theorem store3_at (X : FVec Ideal S512x1024 .bf16) (Y : FVec Ideal S1024x512 .bf16) (r : Fin 128) (b : Fin 512) :
    k0_pay11 (F := Ideal) X Y (ix2 r b) = ∑ k : Fin 1024, X (ix2 ⟨384 + r.val, by omega⟩ k) * Y (ix2 k b) := by
  pointwise [k0_pay11]

variable (m : (ℓ : Loc nD τ sig) → Buf (Elt Ideal) ℓ) (ρ : Dev nD → PrngReg)

/-- A device's partial result is its share of every row. -/
theorem part_at (c : Dev nD) (a b : Fin 512) :
    part m ρ c (ix2 a b) = share (xV m ρ c) (wV m ρ c) (eV m ρ c) (expV m ρ c) c a b := by
  have hx : ∀ (a : Fin 512) (k : Fin 1024), xsV m ρ c (ix2 a k)
      = if eV m ρ c (ix2 a 0) = BitVec.ofNat 32 (4 * c.val + k.val / 256)
        then xV m ρ c (ix2 a ⟨k.val % 256, by omega⟩) * gate (xV m ρ c) (wV m ρ c) (eV m ρ c (ix2 a 0)) a else 0 := fun a k => by
    unfold xsV
    rw [me_word]
    exact xs_at (xV m ρ c) (wV m ρ c) (eV m ρ c) c a k
  have hs : ∀ (q : Fin 4) (r : Fin 128), chunkV m ρ c q (ix2 r b)
      = ∑ k : Fin 1024, xsV m ρ c (ix2 ⟨128 * q.val + r.val, by omega⟩ k) * ewV m ρ c (ix2 k b) := fun q r => by
    match q with
    | 0 => exact store0_at _ _ _ _ _ _ _ _ r b
    | 1 => exact store1_at _ _ r b
    | 2 => exact store2_at _ _ r b
    | 3 => exact store3_at _ _ r b
  have hp : part m ρ c (ix2 a b) = chunkV m ρ c ⟨a.val / 128, by omega⟩ (ix2 ⟨a.val % 128, by omega⟩ b) := by
    unfold part
    rw [ix2_eq_valueIdx (n0 := 128)]
    rfl
  have ha : (⟨128 * (a.val / 128) + a.val % 128, by omega⟩ : Fin 512) = a := Fin.ext (by show 128 * (a.val / 128) + a.val % 128 = a.val; omega)
  rw [hp, hs]
  refine Finset.sum_congr rfl fun k _ => ?_
  have hw : ewV m ρ c (ix2 k b) = _ := ew_at (expV m ρ c) k b
  rw [hw, show (⟨128 * (⟨a.val / 128, by omega⟩ : Fin 4).val + (⟨a.val % 128, by omega⟩ : Fin 128).val, by omega⟩ : Fin 512) = a from ha, hx]

/-- Row `a` of a device's result: the shared expert's product and all devices' shares. -/
theorem out_at (c : Dev nD) (a : Fin 32) (b : Fin 512) :
    outV m ρ c (ix2 a b)
      = ∑ k : Fin 256, xV m ρ c (ix2 ⟨32 * c.val + a.val, by have : c.val < 16 := c.isLt; omega⟩ k) * shV m ρ c (ix2 k b)
        + ∑ s : Fin 16, share (xV m ρ s) (wV m ρ s) (eV m ρ s) (expV m ρ s) s ⟨32 * c.val + a.val, by have : c.val < 16 := c.isLt; omega⟩ b := by
  have h : ∀ (x : FVec Ideal S32x256 .bf16) (w : FVec Ideal S256x512 .bf16) (r : FVec Ideal S16x32x512 .bf16),
      k0_pay14 (F := Ideal) (k0_pay12 x w) r (ix2 a b) = ∑ k : Fin 256, x (ix2 a k) * w (ix2 k b) + ∑ s : Fin 16, r (ix3 s a b) := fun x w r => by
    pointwise [k0_pay14, k0_pay12]
  unfold outV
  rw [h]
  refine congrArg₂ (· + ·) (Finset.sum_congr rfl fun k _ => ?_) (Finset.sum_congr rfl fun s _ => ?_)
  · unfold xRows
    rw [ix2_eq_valueIdx (n0 := 512)]
    rfl
  · rw [← part_at m ρ s]
    unfold landed
    rw [ix2_eq_valueIdx (n0 := 512)]
    rfl

end Cert.Moe
-- ==== Proof.RefValue.lean ====
/-
# The reference's value, read at an index

The reference's result is the shared expert's product plus the row's expert's product times the expert's probability.
-/
module

public import proofs.«01_k».proof.Proof.Softmax
public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.Moe

open Cert.ReferenceIdeal Cert.ReferenceIdeal.Gen
open Idealize.ShloMosaic
open Idealize.ShloMosaic.TcCoe

/-- The softmax of the scores as the reference's term. -/
def probTerm (x : FVec Ideal S512x256 .bf16) (w : FVec Ideal S256x64 .bf16) : FVec Ideal S512x64 .f32 :=
  Host.divf (Host.exp (subf (Host.dotGeneral dot_S512x256_S256x64_S512x64_1_0_0_1_n_n none (extf .f32 x bitsLt_bf16_f32) (extf .f32 w bitsLt_bf16_f32)) (broadcastInDim S512x64 ![0, 1] bcast_S512x1_S512x64_0_1 (broadcastInDim S512x1 ![0] bcast_S512_S512x1_0 (Host.reduce FloatOps.maximumf (Host.dotGeneral dot_S512x256_S256x64_S512x64_1_0_0_1_n_n none (extf .f32 x bitsLt_bf16_f32) (extf .f32 w bitsLt_bf16_f32)) (constant S_ .f32 0xFF800000#32) reducesTo_S512x64_S512_d1 h_S_))))) (broadcastInDim S512x64 ![0, 1] bcast_S512x1_S512x64_0_1 (broadcastInDim S512x1 ![0] bcast_S512_S512x1_0 (Host.reduceAdd (Host.exp (subf (Host.dotGeneral dot_S512x256_S256x64_S512x64_1_0_0_1_n_n none (extf .f32 x bitsLt_bf16_f32) (extf .f32 w bitsLt_bf16_f32)) (broadcastInDim S512x64 ![0, 1] bcast_S512x1_S512x64_0_1 (broadcastInDim S512x1 ![0] bcast_S512_S512x1_0 (Host.reduce FloatOps.maximumf (Host.dotGeneral dot_S512x256_S256x64_S512x64_1_0_0_1_n_n none (extf .f32 x bitsLt_bf16_f32) (extf .f32 w bitsLt_bf16_f32)) (constant S_ .f32 0xFF800000#32) reducesTo_S512x64_S512_d1 h_S_))))) (constant S_ .f32 0x00000000#32) reducesTo_S512x64_S512_d1 h_S_)))

/-- The numbers of the rows, a negative one counted from the end. -/
def rowWords : IVec S512x1 32 :=
  broadcastInDim S512x1 ![0] bcast_S512_S512x1_0 (select (cmpi .slt (iotaInDim S512 32 0) (broadcastInDim S512 ![] bcast_S_S512 (constantI S_ 32 0#32))) (addi (iotaInDim S512 32 0) (broadcastInDim S512 ![] bcast_S_S512 (constantI S_ 32 512#32))) (iotaInDim S512 32 0))

/-- The numbers of the rows' experts, a negative one counted from the end. -/
def named (e : IVec S512x1 32) : IVec S512x1 32 :=
  broadcastInDim S512x1 ![0] bcast_S512_S512x1_0 (select (cmpi .slt (shapeCast _ e shapeCasts_S512x1_S512) (broadcastInDim S512 ![] bcast_S_S512 (constantI S_ 32 0#32))) (addi (shapeCast _ e shapeCasts_S512x1_S512) (broadcastInDim S512 ![] bcast_S_S512 (constantI S_ 32 64#32))) (shapeCast _ e shapeCasts_S512x1_S512))

/-- Every row's number beside its expert's. -/
def pairs (e : IVec S512x1 32) : IVec S512x2 32 :=
  concatenate S512x2 1 [⟨S512x1, rowWords⟩, ⟨S512x1, (named e)⟩] concatenates_S512x1_S512x1_S512x2_d1

/-- The reference's result as one term in its five arguments. -/
def refTerm (x : FVec Ideal S512x256 .bf16) (w : FVec Ideal S256x64 .bf16) (e : IVec S512x1 32) (E : FVec Ideal S64x256x512 .bf16)
    (S : FVec Ideal S256x512 .bf16) : FVec Ideal S512x512 .f32 :=
  addf (Host.dotGeneral dot_S512x256_S256x512_S512x512_1_0_0_1_n_n none (extf .f32 x bitsLt_bf16_f32) (extf .f32 S bitsLt_bf16_f32)) (mulf (broadcastInDim S512x512 ![0, 1] bcast_S512x1_S512x512_0_1 (broadcastInDim S512x1 ![0] bcast_S512_S512x1_0 (Host.gather gather_S512x64_S512x2_S512_n_01_n_n_01_1_11 (probTerm x w) (pairs e)))) (Host.dotGeneral dot_S512x256_S512x256x512_S512x512_1_1_n_2_0_0 none (extf .f32 x bitsLt_bf16_f32) (Host.gather gather_S64x256x512_S512x1_S512x256x512_12_0_n_n_0_1_1256512 (extf .f32 E bitsLt_bf16_f32) (named e))))

/-- The reference's softmax is the softmax. -/
theorem probTerm_at (x : FVec Ideal S512x256 .bf16) (w : FVec Ideal S256x64 .bf16) (a : Fin 512) (j : Fin 64) : probTerm x w (ix2 a j) = prob x w a j := by
  pointwise [probTerm]
  rfl

/-- The number of an expert is kept. -/
theorem named_at (e : IVec S512x1 32) (a : Fin 512) (n : Fin 64) (h : e (ix2 a 0) = BitVec.ofNat 32 n.val) :
    named e (ix2 a 0) = BitVec.ofNat 32 n.val := by
  have hr : named e (ix2 a 0) = Scalar.select (IntOp.cmpi .slt (e (ix2 a 0)) 0#32) (IntOp.addi (e (ix2 a 0)) 64#32) (e (ix2 a 0)) := by
    pointwise [named]
  have hn : ∀ n : Fin 64, Scalar.select (IntOp.cmpi .slt (BitVec.ofNat 32 n.val) 0#32) (IntOp.addi (BitVec.ofNat 32 n.val) 64#32) (BitVec.ofNat 32 n.val)
      = BitVec.ofNat 32 n.val := by decide +kernel
  rw [hr, h, hn]

/-- So is the number of a row. -/
theorem rowWords_at (a : Fin 512) : rowWords (ix2 a 0) = BitVec.ofNat 32 a.val := by
  have hr : rowWords (ix2 a 0) = Scalar.select (IntOp.cmpi .slt (BitVec.ofNat 32 a.val) 0#32) (IntOp.addi (BitVec.ofNat 32 a.val) 512#32) (BitVec.ofNat 32 a.val) := by
    pointwise [rowWords]
  have hn : ∀ a : Fin 512, Scalar.select (IntOp.cmpi .slt (BitVec.ofNat 32 a.val) 0#32) (IntOp.addi (BitVec.ofNat 32 a.val) 512#32) (BitVec.ofNat 32 a.val)
      = BitVec.ofNat 32 a.val := by decide +kernel
  rw [hr, hn]

/-- The first of a pair is the row's number, -/
theorem pairs_row (e : IVec S512x1 32) (a : Fin 512) : pairs e (ix2 a 0) = BitVec.ofNat 32 a.val := by
  refine Eq.trans ?_ (rowWords_at a)
  generalize hp : named e = p
  generalize hq : rowWords = q
  unfold pairs
  rw [hp, hq]
  pointwise []

/-- the second its expert's. -/
theorem pairs_expert (e : IVec S512x1 32) (a : Fin 512) (n : Fin 64) (h : e (ix2 a 0) = BitVec.ofNat 32 n.val) :
    pairs e (ix2 a 1) = BitVec.ofNat 32 n.val := by
  refine Eq.trans ?_ (named_at e a n h)
  generalize hp : named e = p
  generalize hq : rowWords = q
  unfold pairs
  rw [hp, hq]
  pointwise []

/-- The gather by pairs takes the element that the pair names. -/
theorem pick_at (p : FVec Ideal S512x64 .f32) (q : IVec S512x2 32) (a : Fin 512) (r : Fin 512) (n : Fin 64)
    (h0 : q (ix2 a 0) = BitVec.ofNat 32 r.val) (h1 : q (ix2 a 1) = BitVec.ofNat 32 n.val) :
    Host.gather gather_S512x64_S512x2_S512_n_01_n_n_01_1_11 p q (ix1 a) = p (ix2 r n) := by
  have hr : (BitVec.ofNat 32 r.val).toInt = r.val := StableHlo.Predicate.toInt_ofNat_small _ (by have := r.isLt; omega)
  have hn : (BitVec.ofNat 32 n.val).toInt = n.val := StableHlo.Predicate.toInt_ofNat_small _ (by have := n.isLt; omega)
  unfold Host.gather
  refine congrArg p (funext fun z => Fin.ext ?_)
  match z with
  | ⟨0, _⟩ =>
    have hsi : gather_S512x64_S512x2_S512_n_01_n_n_01_1_11.siIdx (ix1 a) ⟨0, by decide⟩ = ix2 a 0 := by
      funext s
      match s with
      | ⟨0, _⟩ => rfl
      | ⟨1, _⟩ => rfl
    show min (q (gather_S512x64_S512x2_S512_n_01_n_n_01_1_11.siIdx (ix1 a) ⟨0, by decide⟩)).toInt.toNat 511 = r.val
    rw [hsi, h0, hr]
    have := r.isLt
    omega
  | ⟨1, _⟩ =>
    have hsi : gather_S512x64_S512x2_S512_n_01_n_n_01_1_11.siIdx (ix1 a) ⟨1, by decide⟩ = ix2 a 1 := by
      funext s
      match s with
      | ⟨0, _⟩ => rfl
      | ⟨1, _⟩ => rfl
    show min (q (gather_S512x64_S512x2_S512_n_01_n_n_01_1_11.siIdx (ix1 a) ⟨1, by decide⟩)).toInt.toNat 63 = n.val
    rw [hsi, h1, hn]
    have := n.isLt
    omega

/-- The gather takes row `a`'s expert: expert `g` where the row's word is the number `g`. -/
theorem gather_at (E : FVec Ideal S64x256x512 .bf16) (e : IVec S512x1 32) (a : Fin 512) (d : Fin 256) (b : Fin 512) (g : Fin 64) (h : e (ix2 a 0) = BitVec.ofNat 32 g.val) :
   Host.gather gather_S64x256x512_S512x1_S512x256x512_12_0_n_n_0_1_1256512 E e (ix3 a d b) = E (ix3 g d b) := by
  unfold Host.gather
  refine congrArg E (funext fun q => Fin.ext ?_)
  match q with
  | ⟨0, _⟩ =>
    have hsi : ∀ z, gather_S64x256x512_S512x1_S512x256x512_12_0_n_n_0_1_1256512.siIdx (ix3 a d b) z = ix2 a 0 := fun z => by
      funext r
      match r with
      | ⟨0, _⟩ => rfl
      | ⟨1, _⟩ => exact Fin.ext (by have h2 : z.val < 1 := z.isLt; show z.val = 0; omega)
    show min (e _).toInt.toNat 63 = g.val
    rw [hsi, h]
    have := g.isLt
    have : (BitVec.ofNat 32 g.val).toInt = g.val := StableHlo.Predicate.toInt_ofNat_small _ (by omega)
    rw [this]
    omega
  | ⟨1, _⟩ => show 0 + 0 + d.val = d.val; omega
  | ⟨2, _⟩ => show 0 + 0 + b.val = b.val; omega

/-- Row `a` of the reference's result, when its word is the number `n` of an expert. -/
theorem ref_at (x : FVec Ideal S512x256 .bf16) (w : FVec Ideal S256x64 .bf16) (e : IVec S512x1 32) (E : FVec Ideal S64x256x512 .bf16)
    (S : FVec Ideal S256x512 .bf16) (a b : Fin 512) (n : Fin 64) (h : e (ix2 a 0) = BitVec.ofNat 32 n.val) :
    refTerm x w e E S (ix2 a b)
      = ∑ k : Fin 256, x (ix2 a k) * S (ix2 k b) + prob x w a n * ∑ d : Fin 256, x (ix2 a d) * E (ix3 n d b) := by
  have hg : ∀ d : Fin 256, Host.gather gather_S64x256x512_S512x1_S512x256x512_12_0_n_n_0_1_1256512 E (named e) (ix3 a d b) = E (ix3 n d b) := fun d =>
    gather_at E (named e) a d b n (named_at e a n h)
  have hp := pick_at (probTerm x w) (pairs e) a a n (pairs_row e a) (pairs_expert e a n h)
  rw [probTerm_at] at hp
  rw [← hp, ← Finset.sum_congr rfl fun d _ => congrArg (x (ix2 a d) * ·) (hg d)]
  pointwise [refTerm]
  rfl

end Cert.Moe
-- ==== Proof.Value.lean ====
/-
# A device's result is its block of the reference's

Where every device holds the same activations, router weights, expert numbers and shared expert, and its own four of the
sixty-four experts, the activations and router weights are finite, and every row names one of the experts.
-/
module

public import proofs.«01_k».proof.Proof.Rows
public import proofs.«01_k».proof.Proof.RefValue
public import proofs.«01_k».proof.Proof.Final
public import proofs.«01_k».proof.Defs
public import Idealize.ShloMosaic.Lib.Layout

@[expose] public section

set_option maxRecDepth 16384

noncomputable section

namespace Cert.Moe

open Idealize.ShloMosaic
open Idealize.ShloMosaic.TcCoe

section Precondition

/-- The literal above all finite numbers is +∞. -/
theorem pos_inf : Ideal.ofBits .f32 0x7F800000#32 = ⊤ := by
  show Ideal.ieee 8 23 0x7F800000#32 = ⊤
  unfold Ideal.ieee
  simp

/-- A magnitude below +∞ is that of a finite number. -/
theorem finite_of_lt (x : EReal) (h : Ideal.cmp .olt (max x (-x)) (Ideal.ofBits .f32 0x7F800000#32) = 1#1) : x ≠ ⊤ ∧ x ≠ ⊥ := by
  rw [pos_inf] at h
  constructor
  · rintro rfl
    simp [Ideal.cmp] at h
  · rintro rfl
    simp [Ideal.cmp] at h

/-- What the precondition says of the activations, -/
theorem finite_x [Cert.Pre_valid_KernelIdeal.Facts] (x : FVec Ideal ⟨2, ![512, 256]⟩ .bf16) (w : FVec Ideal ⟨2, ![256, 64]⟩ .bf16)
    (e : IVec ⟨2, ![512, 1]⟩ 32) (E : FVec Ideal ⟨3, ![4, 256, 512]⟩ .bf16) (S : FVec Ideal ⟨2, ![256, 512]⟩ .bf16)
    (h : (Cert.Pre_valid_KernelIdeal.fn (F := Ideal) x w e E S).1 = fun _ => 1#1) : Finite x := fun i =>
  finite_of_lt (x i) (congrFun h i)

/-- of the router's weights, -/
theorem finite_w [Cert.Pre_valid_KernelIdeal.Facts] (x : FVec Ideal ⟨2, ![512, 256]⟩ .bf16) (w : FVec Ideal ⟨2, ![256, 64]⟩ .bf16)
    (e : IVec ⟨2, ![512, 1]⟩ 32) (E : FVec Ideal ⟨3, ![4, 256, 512]⟩ .bf16) (S : FVec Ideal ⟨2, ![256, 512]⟩ .bf16)
    (h : (Cert.Pre_valid_KernelIdeal.fn (F := Ideal) x w e E S).2.1 = fun _ => 1#1) : Finite w := fun i =>
  finite_of_lt (w i) (congrFun h i)

/-- A word that is at least 0 and below 64 is one of the 64 numbers. -/
theorem word_lt (v : BitVec 32) (h : IntOp.andi (IntOp.cmpi .sge v 0#32) (IntOp.cmpi .slt v 64#32) = 1#1) : ∃ n : Fin 64, v = BitVec.ofNat 32 n.val := by
  have hv : v.toNat < 64 := by
    have hb : ∀ p q : Bool, IntOp.andi (BitVec.ofBool p) (BitVec.ofBool q) = 1#1 → p = true ∧ q = true := by decide
    obtain ⟨h0, h1⟩ := hb ((0#32).sle v) (v.slt 64#32) h
    rw [BitVec.sle_iff_toInt_le] at h0
    rw [BitVec.slt_iff_toInt_lt] at h1
    have hv := v.isLt
    rw [show (0#32).toInt = 0 from rfl, BitVec.toInt_eq_toNat_cond] at h0
    rw [show (64#32).toInt = 64 from rfl, BitVec.toInt_eq_toNat_cond] at h1
    split at h0 <;> split at h1 <;> omega
  exact ⟨⟨v.toNat, hv⟩, by simp⟩

/-- and of the experts' numbers. -/
theorem expert_in [Cert.Pre_valid_KernelIdeal.Facts] (x : FVec Ideal ⟨2, ![512, 256]⟩ .bf16) (w : FVec Ideal ⟨2, ![256, 64]⟩ .bf16)
    (e : IVec ⟨2, ![512, 1]⟩ 32) (E : FVec Ideal ⟨3, ![4, 256, 512]⟩ .bf16) (S : FVec Ideal ⟨2, ![256, 512]⟩ .bf16)
    (h : (Cert.Pre_valid_KernelIdeal.fn (F := Ideal) x w e E S).2.2 = fun _ => 1#1) (a : Fin 512) :
    ∃ n : Fin 64, e (ix2 a 0) = BitVec.ofNat 32 n.val :=
  word_lt _ (congrFun h (ix2 a 0))

end Precondition

section Blocks

/-- Expert `l` of device `s` is expert `4 s + l` of all. -/
theorem expert_block (E : FVec Ideal ⟨3, ![64, 256, 512]⟩ .bf16) (s : Fin 16) (l : Fin 4) (d : Fin 256) (b : Fin 512) :
    Layout.block ⟨3, ![4, 256, 512]⟩ ⟨3, ![64, 256, 512]⟩ 0 16 s E (by decide) (ix3 l d b) = E (ix3 ⟨4 * s.val + l.val, by omega⟩ d b) := by
  rw [Layout.block_apply]
  refine congrArg E (funext fun q => Fin.ext ?_)
  match q with
  | ⟨0, _⟩ => show s.val * 4 + l.val = 4 * s.val + l.val; omega
  | ⟨1, _⟩ => rfl
  | ⟨2, _⟩ => rfl

/-- Row `a` of device `c`'s result is row `32 c + a` of the whole. -/
theorem result_block (V : FVec Ideal ⟨2, ![512, 512]⟩ .f32) (c : Fin 16) (a : Fin 32) (b : Fin 512) :
    Layout.block ⟨2, ![32, 512]⟩ ⟨2, ![512, 512]⟩ 0 16 c V (by decide) (ix2 a b) = V (ix2 ⟨32 * c.val + a.val, by omega⟩ b) := by
  rw [Layout.block_apply]
  refine congrArg V (funext fun q => Fin.ext ?_)
  match q with
  | ⟨0, _⟩ => show c.val * 32 + a.val = 32 * c.val + a.val; omega
  | ⟨1, _⟩ => rfl

end Blocks

open Cert.KernelIdeal Cert.KernelIdeal.Gen

variable (m : (ℓ : Loc nD τ sig) → Buf (Elt Ideal) ℓ) (ρ : Dev nD → PrngReg)

/-- The result of device `c` is block `c` of the reference's. -/
theorem out_eq (x : FVec Ideal ⟨2, ![512, 256]⟩ .bf16) (w : FVec Ideal ⟨2, ![256, 64]⟩ .bf16) (e : IVec ⟨2, ![512, 1]⟩ 32)
    (E : FVec Ideal ⟨3, ![64, 256, 512]⟩ .bf16) (S : FVec Ideal ⟨2, ![256, 512]⟩ .bf16) (fx : Finite x) (fw : Finite w)
    (fe : ∀ a : Fin 512, ∃ n : Fin 64, e (ix2 a 0) = BitVec.ofNat 32 n.val)
    (hx : ∀ c : Dev nD, m ((c.tc : Thread nD τ).loc main_arg0) = x) (hw : ∀ c : Dev nD, m ((c.tc : Thread nD τ).loc main_arg1) = w)
    (he : ∀ c : Dev nD, m ((c.tc : Thread nD τ).loc main_arg2) = e)
    (hE : ∀ c : Dev nD, m ((c.tc : Thread nD τ).loc main_arg3) = Layout.block ⟨3, ![4, 256, 512]⟩ ⟨3, ![64, 256, 512]⟩ 0 16 c E)
    (hS : ∀ c : Dev nD, m ((c.tc : Thread nD τ).loc main_arg4) = S) (c : Dev nD) :
    outV m ρ c = Layout.block ⟨2, ![32, 512]⟩ ⟨2, ![512, 512]⟩ 0 16 c (refTerm x w e E S) := by
  have exx : ∀ c, xV m ρ c = x := fun c => (xV_eq m ρ c).trans (hx c)
  have ew : ∀ c, wV m ρ c = w := fun c => (wV_eq m ρ c).trans (hw c)
  have ee : ∀ c, eV m ρ c = e := fun c => (eV_eq m ρ c).trans (he c)
  have eE : ∀ c, expV m ρ c = Layout.block ⟨3, ![4, 256, 512]⟩ ⟨3, ![64, 256, 512]⟩ 0 16 c E := fun c => (expV_eq m ρ c).trans (hE c)
  have eS : ∀ c, shV m ρ c = S := fun c => (shV_eq m ρ c).trans (hS c)
  have key : ∀ (a : Fin 32) (b : Fin 512), outV m ρ c (ix2 a b)
      = Layout.block ⟨2, ![32, 512]⟩ ⟨2, ![512, 512]⟩ 0 16 c (refTerm x w e E S) (by decide) (ix2 a b) := fun a b => by
    have hc : c.val < 16 := c.isLt
    have hsh : ∀ r : Fin 512, ∑ s : Fin 16, share (xV m ρ s) (wV m ρ s) (eV m ρ s) (expV m ρ s) s r b
        = ∑ s : Fin 16, share x w e ((fun s => Layout.block ⟨3, ![4, 256, 512]⟩ ⟨3, ![64, 256, 512]⟩ 0 16 s E) s) s r b := fun r =>
      Finset.sum_congr rfl fun s _ => by rw [exx s, ew s, ee s, eE s]
    rw [out_at, result_block, exx, eS, hsh]
    obtain ⟨n, hn⟩ := fe ⟨32 * c.val + a.val, by omega⟩
    rw [ref_at x w e E S _ b n hn,
      shares_sum x w fx fw e (fun s => Layout.block ⟨3, ![4, 256, 512]⟩ ⟨3, ![64, 256, 512]⟩ 0 16 s E) _ b n hn]
    refine congrArg _ (congrArg _ (Finset.sum_congr rfl fun d _ => ?_))
    rw [expert_block]
    exact congrArg (fun q : Fin 64 => x (ix2 _ d) * E (ix3 q d b)) (Fin.ext (by show 4 * (n.val / 4) + n.val % 4 = n.val; omega))
  funext i
  have hi : i = ix2 (n0 := 32) (n1 := 512) (i 0) (i 1) := by
    funext q
    match q with
    | ⟨0, _⟩ => rfl
    | ⟨1, _⟩ => rfl
  rw [hi]
  exact key (i 0) (i 1)

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Final
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

section Arguments

open Cert.KernelIdeal Cert.KernelIdeal.Gen

/-- From the run's final arrays, that a device's five arguments are what they were. -/
theorem args_kept {F : FTy → Type} [FloatOps F] (m : (ℓ : Loc nD τ sig) → Buf (Elt F) ℓ) (ρ : Dev nD → PrngReg) (r : PUnit × MemSt nD τ sig (Elt F))
    (h : Cert.Moe.QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (Cert.Moe.finalA_in m ρ c (0 : Fin 6) rfl), (h c (1 : Fin 6)).trans (Cert.Moe.finalA_in m ρ c (1 : Fin 6) rfl),
    (h c (2 : Fin 6)).trans (Cert.Moe.finalA_in m ρ c (2 : Fin 6) rfl), (h c (3 : Fin 6)).trans (Cert.Moe.finalA_in m ρ c (3 : Fin 6) rfl),
    (h c (4 : Fin 6)).trans (Cert.Moe.finalA_in m ρ c (4 : Fin 6) rfl)⟩

end Arguments

section SameText

variable {F : FTy → Type} [FloatOps F]

/-- The two programs' bodies are the same text. -/
theorem same_body : @Cert.Kernel.cc0_body F _ _ = @Cert.KernelIdeal.cc0_body F _ _ := rfl

/-- So are their tables of bodies, -/
theorem same_bodies : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

/-- and with the staging copies. -/
theorem same_defs : Cert.Kernel.defs (F := F) = Cert.KernelIdeal.defs (F := F) :=
  congrArg (Pipeline.defs (Cert.Kernel.pcfgs (F := F))) same_bodies

end SameText

/-- The program as it is, over bit patterns: it runs to the end, its arguments kept, every semaphore at zero. Its text is the
    other program's, so the run is the same one. -/
theorem frame_kernel : Cert.quiescent_Kernel := fun m ρ _ => by
  rw [same_defs]
  exact (θ_run Cert.KernelIdeal.defs _ _).mono (fun r h => ⟨fun c => args_kept m ρ r h.1 c, h.2⟩) (Cert.Moe.run_main (F := Bits) m ρ)

/-- The same over extended reals. -/
theorem frame_kernelIdeal : Cert.quiescent_KernelIdeal := fun m ρ _ =>
  (θ_run Cert.KernelIdeal.defs _ _).mono (fun r h => ⟨fun c => args_kept m ρ r h.1 c, h.2⟩) (Cert.Moe.run_main (F := Ideal) m ρ)

/-- The reference runs to the end, its arguments kept; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The shape relations of the precondition, over one device's blocks -/
theorem facts_pre_kernel : Cert.Pre_valid_KernelIdeal.Facts := ⟨by decide, by decide, by decide, by decide⟩

/-- and over the whole arrays. -/
theorem facts_pre_reference : Cert.Pre_valid_ReferenceIdeal.Facts := ⟨by decide, by decide, by decide, by decide⟩

/-- For finite activations and router weights, and rows that name one of the 64 experts, every device's result is its 32 rows of the reference's. -/
theorem value : Cert.algebraic_KernelIdeal_ReferenceIdeal_pre_valid_KernelIdeal (hPre_valid_KernelIdeal := facts_pre_kernel) :=
  fun m g m' g' hpre hin => by
    haveI := facts_pre_kernel
    have fx : Cert.Moe.Finite (m' (((0 : Dev Cert.ReferenceIdeal.nD).tc : Thread Cert.ReferenceIdeal.nD Cert.ReferenceIdeal.τ).loc Cert.ReferenceIdeal.main_arg0)) := by
      rw [← (hin 0).1]
      exact Cert.Moe.finite_x _ _ _ _ _ (hpre 0).1
    have fw : Cert.Moe.Finite (m' (((0 : Dev Cert.ReferenceIdeal.nD).tc : Thread Cert.ReferenceIdeal.nD Cert.ReferenceIdeal.τ).loc Cert.ReferenceIdeal.main_arg1)) := by
      rw [← (hin 0).2.1]
      exact Cert.Moe.finite_w _ _ _ _ _ (hpre 0).2.1
    have fe : ∀ a : Fin 512, ∃ n : Fin 64, m' (((0 : Dev Cert.ReferenceIdeal.nD).tc : Thread Cert.ReferenceIdeal.nD Cert.ReferenceIdeal.τ).loc Cert.ReferenceIdeal.main_arg2) (ix2 a 0) = BitVec.ofNat 32 n.val := by
      rw [← (hin 0).2.2.1]
      exact Cert.Moe.expert_in _ _ _ _ _ (hpre 0).2.2
    refine ⟨_, (θ_run Cert.KernelIdeal.defs _ _).mono (fun r h c => ⟨?_, args_kept m g r h.1 c⟩) (Cert.Moe.run_main (F := Ideal) m g),
      (θ_run Cert.ReferenceIdeal.defs _ _).mono (fun r h => h 0) (Cert.ReferenceIdeal.Value.run (F := Ideal) m' g')⟩
    exact ((h.1 c (5 : Fin 6)).trans (Cert.Moe.finalA_out m g c)).trans (Cert.Moe.out_eq m g _ _ _ _ _ fx fw fe (fun c => (hin c).1)
      (fun c => (hin c).2.1) (fun c => (hin c).2.2.1) (fun c => (hin c).2.2.2.1) (fun c => (hin c).2.2.2.2) c)

/-- The whole claim. -/
theorem claim : Cert.Claim := ⟨Cert.Kernel.Gen.facts, Cert.KernelIdeal.Gen.facts, Cert.ReferenceIdeal.Gen.facts, facts_pre_kernel, facts_pre_reference,
  frame_kernel, frame_kernelIdeal, fun m ρ _ => frame_kernelIdeal m ρ trivial, frame_reference, fun m ρ _ => frame_reference m ρ trivial, trivial, value⟩

end Cert.Proof

end
